-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S3x256x128 : Shape := ⟨3, ![3, 256, 128]⟩
abbrev S3 : Shape := ⟨1, ![3]⟩
abbrev S1x256x128 : Shape := ⟨3, ![1, 256, 128]⟩
abbrev S256x128 : Shape := ⟨2, ![256, 128]⟩
abbrev S1 : Shape := ⟨1, ![1]⟩
abbrev S_ : Shape := ⟨0, ![]⟩
abbrev S16 : Shape := ⟨1, ![16]⟩
abbrev S1x1x16 : Shape := ⟨3, ![1, 1, 16]⟩

abbrev nBuf : Table → Nat
  | .hbm => 2
  | .local .scVector .vmem => 1
  | _ => 0

abbrev bufTy : (tb : Table) → Fin (nBuf tb) → BufTy
  | .hbm, ⟨0, _⟩ => ⟨S2x2048x2048, .f32⟩
  | .hbm, ⟨1, _⟩ => ⟨S2x2048x2048, .f32⟩
  | .local .scVector .vmem, ⟨0, _⟩ => ⟨S3x256x128, .f32⟩
  | _, _ => ⟨S2x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1792_i32 : BitVec 32 := 1792#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 1792, v29.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1536_i32 : BitVec 32 := 1536#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 1536, v29.toNat]
@[reducible] def k0_t1_loop : Scf.Loop 32 :=
  let c0_i32_39 : BitVec 32 := 0#32
  let c256_i32 : BitVec 32 := 256#32
  let v68 : BitVec 32 := Scalar.addi c0_i32_39 c256_i32
  let c1_i32_40 : BitVec 32 := 1#32
  ⟨c0_i32_39, v68, c1_i32_40⟩
def k0_off3 (k0_t1 : Fin k0_t1_loop.trips) : Fin 3 → Nat :=
  let c0_i32_298 : BitVec 32 := 0#32
  let v375 : Index := Scalar.indexCast c0_i32_298
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v376 : Index := Scalar.indexCast v374
  let c0 : Index := 0#32
  ![0, v376.toNat, 0]
def k0_off4 (k0_t1 : Fin k0_t1_loop.trips) : Fin 3 → Nat :=
  let c0_i32_301 : BitVec 32 := 0#32
  let v385 : Index := Scalar.indexCast c0_i32_301
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v386 : Index := Scalar.indexCast v374
  let c16 : Index := 16#32
  ![0, v386.toNat, 16]
def k0_off5 (k0_t1 : Fin k0_t1_loop.trips) : Fin 3 → Nat :=
  let c0_i32_304 : BitVec 32 := 0#32
  let v395 : Index := Scalar.indexCast c0_i32_304
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v396 : Index := Scalar.indexCast v374
  let c32 : Index := 32#32
  ![0, v396.toNat, 32]
def k0_off6 (k0_t1 : Fin k0_t1_loop.trips) : Fin 3 → Nat :=
  let c0_i32_307 : BitVec 32 := 0#32
  let v405 : Index := Scalar.indexCast c0_i32_307
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v406 : Index := Scalar.indexCast v374
  let c48 : Index := 48#32
  ![0, v406.toNat, 48]
def k0_off7 (k0_t1 : Fin k0_t1_loop.trips) : Fin 3 → Nat :=
  let c0_i32_310 : BitVec 32 := 0#32
  let v415 : Index := Scalar.indexCast c0_i32_310
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v416 : Index := Scalar.indexCast v374
  let c64 : Index := 64#32
  ![0, v416.toNat, 64]
def k0_off8 (k0_t1 : Fin k0_t1_loop.trips) : Fin 3 → Nat :=
  let c0_i32_313 : BitVec 32 := 0#32
  let v425 : Index := Scalar.indexCast c0_i32_313
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v426 : Index := Scalar.indexCast v374
  let c80 : Index := 80#32
  ![0, v426.toNat, 80]
def k0_off9 (k0_t1 : Fin k0_t1_loop.trips) : Fin 3 → Nat :=
  let c0_i32_316 : BitVec 32 := 0#32
  let v435 : Index := Scalar.indexCast c0_i32_316
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v436 : Index := Scalar.indexCast v374
  let c96 : Index := 96#32
  ![0, v436.toNat, 96]
def k0_off10 (k0_t1 : Fin k0_t1_loop.trips) : Fin 3 → Nat :=
  let c0_i32_319 : BitVec 32 := 0#32
  let v445 : Index := Scalar.indexCast c0_i32_319
  let c255_i32 : BitVec 32 := 255#32
  let c0_i32_39 : BitVec 32 := 0#32
  let c1_i32_40 : BitVec 32 := 1#32
  let arg7 : BitVec 32 := Scf.iv c0_i32_39 c1_i32_40 k0_t1
  let v374 : BitVec 32 := Scalar.subi c255_i32 arg7
  let v446 : Index := Scalar.indexCast v374
  let c112 : Index := 112#32
  ![0, v446.toNat, 112]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1280_i32 : BitVec 32 := 1280#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 1280, v29.toNat]
@[reducible] def k0_t2_loop : Scf.Loop 32 :=
  let c0_i32_65 : BitVec 32 := 0#32
  let c256_i32_66 : BitVec 32 := 256#32
  let v100 : BitVec 32 := Scalar.addi c0_i32_65 c256_i32_66
  let c1_i32_67 : BitVec 32 := 1#32
  ⟨c0_i32_65, v100, c1_i32_67⟩
def k0_off12 (k0_t2 : Fin k0_t2_loop.trips) : Fin 3 → Nat :=
  let c1_i32_298 : BitVec 32 := 1#32
  let v375 : Index := Scalar.indexCast c1_i32_298
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v376 : Index := Scalar.indexCast v374
  let c0 : Index := 0#32
  ![1, v376.toNat, 0]
def k0_off13 (k0_t2 : Fin k0_t2_loop.trips) : Fin 3 → Nat :=
  let c1_i32_301 : BitVec 32 := 1#32
  let v385 : Index := Scalar.indexCast c1_i32_301
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v386 : Index := Scalar.indexCast v374
  let c16 : Index := 16#32
  ![1, v386.toNat, 16]
def k0_off14 (k0_t2 : Fin k0_t2_loop.trips) : Fin 3 → Nat :=
  let c1_i32_304 : BitVec 32 := 1#32
  let v395 : Index := Scalar.indexCast c1_i32_304
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v396 : Index := Scalar.indexCast v374
  let c32 : Index := 32#32
  ![1, v396.toNat, 32]
def k0_off15 (k0_t2 : Fin k0_t2_loop.trips) : Fin 3 → Nat :=
  let c1_i32_307 : BitVec 32 := 1#32
  let v405 : Index := Scalar.indexCast c1_i32_307
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v406 : Index := Scalar.indexCast v374
  let c48 : Index := 48#32
  ![1, v406.toNat, 48]
def k0_off16 (k0_t2 : Fin k0_t2_loop.trips) : Fin 3 → Nat :=
  let c1_i32_310 : BitVec 32 := 1#32
  let v415 : Index := Scalar.indexCast c1_i32_310
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v416 : Index := Scalar.indexCast v374
  let c64 : Index := 64#32
  ![1, v416.toNat, 64]
def k0_off17 (k0_t2 : Fin k0_t2_loop.trips) : Fin 3 → Nat :=
  let c1_i32_313 : BitVec 32 := 1#32
  let v425 : Index := Scalar.indexCast c1_i32_313
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v426 : Index := Scalar.indexCast v374
  let c80 : Index := 80#32
  ![1, v426.toNat, 80]
def k0_off18 (k0_t2 : Fin k0_t2_loop.trips) : Fin 3 → Nat :=
  let c1_i32_316 : BitVec 32 := 1#32
  let v435 : Index := Scalar.indexCast c1_i32_316
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v436 : Index := Scalar.indexCast v374
  let c96 : Index := 96#32
  ![1, v436.toNat, 96]
def k0_off19 (k0_t2 : Fin k0_t2_loop.trips) : Fin 3 → Nat :=
  let c1_i32_319 : BitVec 32 := 1#32
  let v445 : Index := Scalar.indexCast c1_i32_319
  let c255_i32 : BitVec 32 := 255#32
  let c0_i32_65 : BitVec 32 := 0#32
  let c1_i32_67 : BitVec 32 := 1#32
  let arg7 : BitVec 32 := Scf.iv c0_i32_65 c1_i32_67 k0_t2
  let v374 : BitVec 32 := Scalar.subi c255_i32 arg7
  let v446 : Index := Scalar.indexCast v374
  let c112 : Index := 112#32
  ![1, v446.toNat, 112]
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c1024_i32 : BitVec 32 := 1024#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 1024, v29.toNat]
@[reducible] def k0_t3_loop : Scf.Loop 32 :=
  let c0_i32_100 : BitVec 32 := 0#32
  let c256_i32_101 : BitVec 32 := 256#32
  let v142 : BitVec 32 := Scalar.addi c0_i32_100 c256_i32_101
  let c1_i32_102 : BitVec 32 := 1#32
  ⟨c0_i32_100, v142, c1_i32_102⟩
def k0_off21 (k0_t3 : Fin k0_t3_loop.trips) : Fin 3 → Nat :=
  let c2_i32_298 : BitVec 32 := 2#32
  let v375 : Index := Scalar.indexCast c2_i32_298
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v376 : Index := Scalar.indexCast v374
  let c0 : Index := 0#32
  ![2, v376.toNat, 0]
def k0_off22 (k0_t3 : Fin k0_t3_loop.trips) : Fin 3 → Nat :=
  let c2_i32_301 : BitVec 32 := 2#32
  let v385 : Index := Scalar.indexCast c2_i32_301
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v386 : Index := Scalar.indexCast v374
  let c16 : Index := 16#32
  ![2, v386.toNat, 16]
def k0_off23 (k0_t3 : Fin k0_t3_loop.trips) : Fin 3 → Nat :=
  let c2_i32_304 : BitVec 32 := 2#32
  let v395 : Index := Scalar.indexCast c2_i32_304
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v396 : Index := Scalar.indexCast v374
  let c32 : Index := 32#32
  ![2, v396.toNat, 32]
def k0_off24 (k0_t3 : Fin k0_t3_loop.trips) : Fin 3 → Nat :=
  let c2_i32_307 : BitVec 32 := 2#32
  let v405 : Index := Scalar.indexCast c2_i32_307
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v406 : Index := Scalar.indexCast v374
  let c48 : Index := 48#32
  ![2, v406.toNat, 48]
def k0_off25 (k0_t3 : Fin k0_t3_loop.trips) : Fin 3 → Nat :=
  let c2_i32_310 : BitVec 32 := 2#32
  let v415 : Index := Scalar.indexCast c2_i32_310
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v416 : Index := Scalar.indexCast v374
  let c64 : Index := 64#32
  ![2, v416.toNat, 64]
def k0_off26 (k0_t3 : Fin k0_t3_loop.trips) : Fin 3 → Nat :=
  let c2_i32_313 : BitVec 32 := 2#32
  let v425 : Index := Scalar.indexCast c2_i32_313
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v426 : Index := Scalar.indexCast v374
  let c80 : Index := 80#32
  ![2, v426.toNat, 80]
def k0_off27 (k0_t3 : Fin k0_t3_loop.trips) : Fin 3 → Nat :=
  let c2_i32_316 : BitVec 32 := 2#32
  let v435 : Index := Scalar.indexCast c2_i32_316
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v436 : Index := Scalar.indexCast v374
  let c96 : Index := 96#32
  ![2, v436.toNat, 96]
def k0_off28 (k0_t3 : Fin k0_t3_loop.trips) : Fin 3 → Nat :=
  let c2_i32_319 : BitVec 32 := 2#32
  let v445 : Index := Scalar.indexCast c2_i32_319
  let c255_i32 : BitVec 32 := 255#32
  let c0_i32_100 : BitVec 32 := 0#32
  let c1_i32_102 : BitVec 32 := 1#32
  let arg7 : BitVec 32 := Scf.iv c0_i32_100 c1_i32_102 k0_t3
  let v374 : BitVec 32 := Scalar.subi c255_i32 arg7
  let v446 : Index := Scalar.indexCast v374
  let c112 : Index := 112#32
  ![2, v446.toNat, 112]
def k0_off29 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c768_i32 : BitVec 32 := 768#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 768, v29.toNat]
@[reducible] def k0_t4_loop : Scf.Loop 32 :=
  let c0_i32_135 : BitVec 32 := 0#32
  let c256_i32_136 : BitVec 32 := 256#32
  let v184 : BitVec 32 := Scalar.addi c0_i32_135 c256_i32_136
  let c1_i32_137 : BitVec 32 := 1#32
  ⟨c0_i32_135, v184, c1_i32_137⟩
def k0_off30 (k0_t4 : Fin k0_t4_loop.trips) : Fin 3 → Nat :=
  let c0_i32_298 : BitVec 32 := 0#32
  let v375 : Index := Scalar.indexCast c0_i32_298
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v376 : Index := Scalar.indexCast v374
  let c0 : Index := 0#32
  ![0, v376.toNat, 0]
def k0_off31 (k0_t4 : Fin k0_t4_loop.trips) : Fin 3 → Nat :=
  let c0_i32_301 : BitVec 32 := 0#32
  let v385 : Index := Scalar.indexCast c0_i32_301
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v386 : Index := Scalar.indexCast v374
  let c16 : Index := 16#32
  ![0, v386.toNat, 16]
def k0_off32 (k0_t4 : Fin k0_t4_loop.trips) : Fin 3 → Nat :=
  let c0_i32_304 : BitVec 32 := 0#32
  let v395 : Index := Scalar.indexCast c0_i32_304
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v396 : Index := Scalar.indexCast v374
  let c32 : Index := 32#32
  ![0, v396.toNat, 32]
def k0_off33 (k0_t4 : Fin k0_t4_loop.trips) : Fin 3 → Nat :=
  let c0_i32_307 : BitVec 32 := 0#32
  let v405 : Index := Scalar.indexCast c0_i32_307
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v406 : Index := Scalar.indexCast v374
  let c48 : Index := 48#32
  ![0, v406.toNat, 48]
def k0_off34 (k0_t4 : Fin k0_t4_loop.trips) : Fin 3 → Nat :=
  let c0_i32_310 : BitVec 32 := 0#32
  let v415 : Index := Scalar.indexCast c0_i32_310
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v416 : Index := Scalar.indexCast v374
  let c64 : Index := 64#32
  ![0, v416.toNat, 64]
def k0_off35 (k0_t4 : Fin k0_t4_loop.trips) : Fin 3 → Nat :=
  let c0_i32_313 : BitVec 32 := 0#32
  let v425 : Index := Scalar.indexCast c0_i32_313
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v426 : Index := Scalar.indexCast v374
  let c80 : Index := 80#32
  ![0, v426.toNat, 80]
def k0_off36 (k0_t4 : Fin k0_t4_loop.trips) : Fin 3 → Nat :=
  let c0_i32_316 : BitVec 32 := 0#32
  let v435 : Index := Scalar.indexCast c0_i32_316
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v436 : Index := Scalar.indexCast v374
  let c96 : Index := 96#32
  ![0, v436.toNat, 96]
def k0_off37 (k0_t4 : Fin k0_t4_loop.trips) : Fin 3 → Nat :=
  let c0_i32_319 : BitVec 32 := 0#32
  let v445 : Index := Scalar.indexCast c0_i32_319
  let c255_i32 : BitVec 32 := 255#32
  let c0_i32_135 : BitVec 32 := 0#32
  let c1_i32_137 : BitVec 32 := 1#32
  let arg7 : BitVec 32 := Scf.iv c0_i32_135 c1_i32_137 k0_t4
  let v374 : BitVec 32 := Scalar.subi c255_i32 arg7
  let v446 : Index := Scalar.indexCast v374
  let c112 : Index := 112#32
  ![0, v446.toNat, 112]
def k0_off38 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c512_i32 : BitVec 32 := 512#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 512, v29.toNat]
@[reducible] def k0_t5_loop : Scf.Loop 32 :=
  let c0_i32_170 : BitVec 32 := 0#32
  let c256_i32_171 : BitVec 32 := 256#32
  let v226 : BitVec 32 := Scalar.addi c0_i32_170 c256_i32_171
  let c1_i32_172 : BitVec 32 := 1#32
  ⟨c0_i32_170, v226, c1_i32_172⟩
def k0_off39 (k0_t5 : Fin k0_t5_loop.trips) : Fin 3 → Nat :=
  let c1_i32_298 : BitVec 32 := 1#32
  let v375 : Index := Scalar.indexCast c1_i32_298
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v376 : Index := Scalar.indexCast v374
  let c0 : Index := 0#32
  ![1, v376.toNat, 0]
def k0_off40 (k0_t5 : Fin k0_t5_loop.trips) : Fin 3 → Nat :=
  let c1_i32_301 : BitVec 32 := 1#32
  let v385 : Index := Scalar.indexCast c1_i32_301
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v386 : Index := Scalar.indexCast v374
  let c16 : Index := 16#32
  ![1, v386.toNat, 16]
def k0_off41 (k0_t5 : Fin k0_t5_loop.trips) : Fin 3 → Nat :=
  let c1_i32_304 : BitVec 32 := 1#32
  let v395 : Index := Scalar.indexCast c1_i32_304
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v396 : Index := Scalar.indexCast v374
  let c32 : Index := 32#32
  ![1, v396.toNat, 32]
def k0_off42 (k0_t5 : Fin k0_t5_loop.trips) : Fin 3 → Nat :=
  let c1_i32_307 : BitVec 32 := 1#32
  let v405 : Index := Scalar.indexCast c1_i32_307
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v406 : Index := Scalar.indexCast v374
  let c48 : Index := 48#32
  ![1, v406.toNat, 48]
def k0_off43 (k0_t5 : Fin k0_t5_loop.trips) : Fin 3 → Nat :=
  let c1_i32_310 : BitVec 32 := 1#32
  let v415 : Index := Scalar.indexCast c1_i32_310
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v416 : Index := Scalar.indexCast v374
  let c64 : Index := 64#32
  ![1, v416.toNat, 64]
def k0_off44 (k0_t5 : Fin k0_t5_loop.trips) : Fin 3 → Nat :=
  let c1_i32_313 : BitVec 32 := 1#32
  let v425 : Index := Scalar.indexCast c1_i32_313
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v426 : Index := Scalar.indexCast v374
  let c80 : Index := 80#32
  ![1, v426.toNat, 80]
def k0_off45 (k0_t5 : Fin k0_t5_loop.trips) : Fin 3 → Nat :=
  let c1_i32_316 : BitVec 32 := 1#32
  let v435 : Index := Scalar.indexCast c1_i32_316
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v436 : Index := Scalar.indexCast v374
  let c96 : Index := 96#32
  ![1, v436.toNat, 96]
def k0_off46 (k0_t5 : Fin k0_t5_loop.trips) : Fin 3 → Nat :=
  let c1_i32_319 : BitVec 32 := 1#32
  let v445 : Index := Scalar.indexCast c1_i32_319
  let c255_i32 : BitVec 32 := 255#32
  let c0_i32_170 : BitVec 32 := 0#32
  let c1_i32_172 : BitVec 32 := 1#32
  let arg7 : BitVec 32 := Scf.iv c0_i32_170 c1_i32_172 k0_t5
  let v374 : BitVec 32 := Scalar.subi c255_i32 arg7
  let v446 : Index := Scalar.indexCast v374
  let c112 : Index := 112#32
  ![1, v446.toNat, 112]
def k0_off47 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c256_i32_202 : BitVec 32 := 256#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 256, v29.toNat]
@[reducible] def k0_t6_loop : Scf.Loop 32 :=
  let c0_i32_206 : BitVec 32 := 0#32
  let c256_i32_207 : BitVec 32 := 256#32
  let v268 : BitVec 32 := Scalar.addi c0_i32_206 c256_i32_207
  let c1_i32_208 : BitVec 32 := 1#32
  ⟨c0_i32_206, v268, c1_i32_208⟩
def k0_off48 (k0_t6 : Fin k0_t6_loop.trips) : Fin 3 → Nat :=
  let c2_i32_298 : BitVec 32 := 2#32
  let v375 : Index := Scalar.indexCast c2_i32_298
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v376 : Index := Scalar.indexCast v374
  let c0 : Index := 0#32
  ![2, v376.toNat, 0]
def k0_off49 (k0_t6 : Fin k0_t6_loop.trips) : Fin 3 → Nat :=
  let c2_i32_301 : BitVec 32 := 2#32
  let v385 : Index := Scalar.indexCast c2_i32_301
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v386 : Index := Scalar.indexCast v374
  let c16 : Index := 16#32
  ![2, v386.toNat, 16]
def k0_off50 (k0_t6 : Fin k0_t6_loop.trips) : Fin 3 → Nat :=
  let c2_i32_304 : BitVec 32 := 2#32
  let v395 : Index := Scalar.indexCast c2_i32_304
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v396 : Index := Scalar.indexCast v374
  let c32 : Index := 32#32
  ![2, v396.toNat, 32]
def k0_off51 (k0_t6 : Fin k0_t6_loop.trips) : Fin 3 → Nat :=
  let c2_i32_307 : BitVec 32 := 2#32
  let v405 : Index := Scalar.indexCast c2_i32_307
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v406 : Index := Scalar.indexCast v374
  let c48 : Index := 48#32
  ![2, v406.toNat, 48]
def k0_off52 (k0_t6 : Fin k0_t6_loop.trips) : Fin 3 → Nat :=
  let c2_i32_310 : BitVec 32 := 2#32
  let v415 : Index := Scalar.indexCast c2_i32_310
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v416 : Index := Scalar.indexCast v374
  let c64 : Index := 64#32
  ![2, v416.toNat, 64]
def k0_off53 (k0_t6 : Fin k0_t6_loop.trips) : Fin 3 → Nat :=
  let c2_i32_313 : BitVec 32 := 2#32
  let v425 : Index := Scalar.indexCast c2_i32_313
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v426 : Index := Scalar.indexCast v374
  let c80 : Index := 80#32
  ![2, v426.toNat, 80]
def k0_off54 (k0_t6 : Fin k0_t6_loop.trips) : Fin 3 → Nat :=
  let c2_i32_316 : BitVec 32 := 2#32
  let v435 : Index := Scalar.indexCast c2_i32_316
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v436 : Index := Scalar.indexCast v374
  let c96 : Index := 96#32
  ![2, v436.toNat, 96]
def k0_off55 (k0_t6 : Fin k0_t6_loop.trips) : Fin 3 → Nat :=
  let c2_i32_319 : BitVec 32 := 2#32
  let v445 : Index := Scalar.indexCast c2_i32_319
  let c255_i32 : BitVec 32 := 255#32
  let c0_i32_206 : BitVec 32 := 0#32
  let c1_i32_208 : BitVec 32 := 1#32
  let arg7 : BitVec 32 := Scf.iv c0_i32_206 c1_i32_208 k0_t6
  let v374 : BitVec 32 := Scalar.subi c255_i32 arg7
  let v446 : Index := Scalar.indexCast v374
  let c112 : Index := 112#32
  ![2, v446.toNat, 112]
def k0_off56 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_238 : BitVec 32 := 0#32
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  ![v18.toNat, 0, v29.toNat]
@[reducible] def k0_t7_loop : Scf.Loop 32 :=
  let c0_i32_242 : BitVec 32 := 0#32
  let c256_i32_243 : BitVec 32 := 256#32
  let v310 : BitVec 32 := Scalar.addi c0_i32_242 c256_i32_243
  let c1_i32_244 : BitVec 32 := 1#32
  ⟨c0_i32_242, v310, c1_i32_244⟩
def k0_off57 (k0_t7 : Fin k0_t7_loop.trips) : Fin 3 → Nat :=
  let c0_i32_298 : BitVec 32 := 0#32
  let v375 : Index := Scalar.indexCast c0_i32_298
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v376 : Index := Scalar.indexCast v374
  let c0 : Index := 0#32
  ![0, v376.toNat, 0]
def k0_off58 (k0_t7 : Fin k0_t7_loop.trips) : Fin 3 → Nat :=
  let c0_i32_301 : BitVec 32 := 0#32
  let v385 : Index := Scalar.indexCast c0_i32_301
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v386 : Index := Scalar.indexCast v374
  let c16 : Index := 16#32
  ![0, v386.toNat, 16]
def k0_off59 (k0_t7 : Fin k0_t7_loop.trips) : Fin 3 → Nat :=
  let c0_i32_304 : BitVec 32 := 0#32
  let v395 : Index := Scalar.indexCast c0_i32_304
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v396 : Index := Scalar.indexCast v374
  let c32 : Index := 32#32
  ![0, v396.toNat, 32]
def k0_off60 (k0_t7 : Fin k0_t7_loop.trips) : Fin 3 → Nat :=
  let c0_i32_307 : BitVec 32 := 0#32
  let v405 : Index := Scalar.indexCast c0_i32_307
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v406 : Index := Scalar.indexCast v374
  let c48 : Index := 48#32
  ![0, v406.toNat, 48]
def k0_off61 (k0_t7 : Fin k0_t7_loop.trips) : Fin 3 → Nat :=
  let c0_i32_310 : BitVec 32 := 0#32
  let v415 : Index := Scalar.indexCast c0_i32_310
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v416 : Index := Scalar.indexCast v374
  let c64 : Index := 64#32
  ![0, v416.toNat, 64]
def k0_off62 (k0_t7 : Fin k0_t7_loop.trips) : Fin 3 → Nat :=
  let c0_i32_313 : BitVec 32 := 0#32
  let v425 : Index := Scalar.indexCast c0_i32_313
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v426 : Index := Scalar.indexCast v374
  let c80 : Index := 80#32
  ![0, v426.toNat, 80]
def k0_off63 (k0_t7 : Fin k0_t7_loop.trips) : Fin 3 → Nat :=
  let c0_i32_316 : BitVec 32 := 0#32
  let v435 : Index := Scalar.indexCast c0_i32_316
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v436 : Index := Scalar.indexCast v374
  let c96 : Index := 96#32
  ![0, v436.toNat, 96]
def k0_off64 (k0_t7 : Fin k0_t7_loop.trips) : Fin 3 → Nat :=
  let c0_i32_319 : BitVec 32 := 0#32
  let v445 : Index := Scalar.indexCast c0_i32_319
  let c255_i32 : BitVec 32 := 255#32
  let c0_i32_242 : BitVec 32 := 0#32
  let c1_i32_244 : BitVec 32 := 1#32
  let arg7 : BitVec 32 := Scf.iv c0_i32_242 c1_i32_244 k0_t7
  let v374 : BitVec 32 := Scalar.subi c255_i32 arg7
  let v446 : Index := Scalar.indexCast v374
  let c112 : Index := 112#32
  ![0, v446.toNat, 112]
@[reducible] def k0_t8_loop : Scf.Loop 32 :=
  let c0_i32_262 : BitVec 32 := 0#32
  let c256_i32_263 : BitVec 32 := 256#32
  let v332 : BitVec 32 := Scalar.addi c0_i32_262 c256_i32_263
  let c1_i32_264 : BitVec 32 := 1#32
  ⟨c0_i32_262, v332, c1_i32_264⟩
def k0_off65 (k0_t8 : Fin k0_t8_loop.trips) : Fin 3 → Nat :=
  let c1_i32_298 : BitVec 32 := 1#32
  let v375 : Index := Scalar.indexCast c1_i32_298
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v376 : Index := Scalar.indexCast v374
  let c0 : Index := 0#32
  ![1, v376.toNat, 0]
def k0_off66 (k0_t8 : Fin k0_t8_loop.trips) : Fin 3 → Nat :=
  let c1_i32_301 : BitVec 32 := 1#32
  let v385 : Index := Scalar.indexCast c1_i32_301
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v386 : Index := Scalar.indexCast v374
  let c16 : Index := 16#32
  ![1, v386.toNat, 16]
def k0_off67 (k0_t8 : Fin k0_t8_loop.trips) : Fin 3 → Nat :=
  let c1_i32_304 : BitVec 32 := 1#32
  let v395 : Index := Scalar.indexCast c1_i32_304
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v396 : Index := Scalar.indexCast v374
  let c32 : Index := 32#32
  ![1, v396.toNat, 32]
def k0_off68 (k0_t8 : Fin k0_t8_loop.trips) : Fin 3 → Nat :=
  let c1_i32_307 : BitVec 32 := 1#32
  let v405 : Index := Scalar.indexCast c1_i32_307
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v406 : Index := Scalar.indexCast v374
  let c48 : Index := 48#32
  ![1, v406.toNat, 48]
def k0_off69 (k0_t8 : Fin k0_t8_loop.trips) : Fin 3 → Nat :=
  let c1_i32_310 : BitVec 32 := 1#32
  let v415 : Index := Scalar.indexCast c1_i32_310
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v416 : Index := Scalar.indexCast v374
  let c64 : Index := 64#32
  ![1, v416.toNat, 64]
def k0_off70 (k0_t8 : Fin k0_t8_loop.trips) : Fin 3 → Nat :=
  let c1_i32_313 : BitVec 32 := 1#32
  let v425 : Index := Scalar.indexCast c1_i32_313
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v426 : Index := Scalar.indexCast v374
  let c80 : Index := 80#32
  ![1, v426.toNat, 80]
def k0_off71 (k0_t8 : Fin k0_t8_loop.trips) : Fin 3 → Nat :=
  let c1_i32_316 : BitVec 32 := 1#32
  let v435 : Index := Scalar.indexCast c1_i32_316
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v436 : Index := Scalar.indexCast v374
  let c96 : Index := 96#32
  ![1, v436.toNat, 96]
def k0_off72 (k0_t8 : Fin k0_t8_loop.trips) : Fin 3 → Nat :=
  let c1_i32_319 : BitVec 32 := 1#32
  let v445 : Index := Scalar.indexCast c1_i32_319
  let c255_i32 : BitVec 32 := 255#32
  let c0_i32_262 : BitVec 32 := 0#32
  let c1_i32_264 : BitVec 32 := 1#32
  let arg7 : BitVec 32 := Scf.iv c0_i32_262 c1_i32_264 k0_t8
  let v374 : BitVec 32 := Scalar.subi c255_i32 arg7
  let v446 : Index := Scalar.indexCast v374
  let c112 : Index := 112#32
  ![1, v446.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x2048 : Shape := ⟨3, ![2, 2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S_, .f32⟩
  | .hbm, ⟨3, _⟩ => ⟨S_, .f32⟩
  | .hbm, ⟨4, _⟩ => ⟨S2x2048x2048, .f32⟩
  | .hbm, ⟨5, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call1_call0_cst : Ref sig .tc := ⟨.hbm, 2, rfl⟩
abbrev main_call1_call0_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Columns.lean ====
/-
  What the kernel computes, as plain functions of the operand. A column of the operand is summed from its last row
  upwards: `tail x b c n` is the sum of the last `n` entries of column `c` of batch `b`, associated as the kernel adds
  them. The kernel's result at row `r` is the tail of `2048 - r` entries. A tile walks its 128 columns in blocks of 256
  rows held in a slot of its buffer; `swept` is what such a slot holds part of the way through a block.
-/
module

public import proofs.«01_k».proof.Defs
public import proofs.«01_k».proof.Proof.Gen.KernelIdeal

@[expose] public section

noncomputable section

namespace Cert.Proof.Suffix

open Cert.KernelIdeal Cert.KernelIdeal.Gen
open Idealize.ShloMosaic

variable {F : FTy → Type}

/-- The index `(b, r, c)` of the operand and of the result, each coordinate taken modulo its extent. -/
def at3 (b r c : ℕ) : S2x2048x2048.Idx := fun a => match a with
  | ⟨0, _⟩ => ⟨b % 2, Nat.mod_lt _ (by decide)⟩
  | ⟨1, _⟩ => ⟨r % 2048, Nat.mod_lt _ (by decide)⟩
  | ⟨2, _⟩ => ⟨c % 2048, Nat.mod_lt _ (by decide)⟩

/-- Every index is the one of its own coordinates. -/
theorem at3_self (i : S2x2048x2048.Idx) : at3 (i 0) (i 1) (i 2) = i := by
  funext a
  match a with
  | ⟨0, _⟩ => exact Fin.ext (Nat.mod_eq_of_lt (i 0).isLt)
  | ⟨1, _⟩ => exact Fin.ext (Nat.mod_eq_of_lt (i 1).isLt)
  | ⟨2, _⟩ => exact Fin.ext (Nat.mod_eq_of_lt (i 2).isLt)

/-- An index whose coordinates are given is the one named by them. -/
theorem eq_at3 (i : S2x2048x2048.Idx) {b r c : ℕ} (h0 : (i 0).val = b) (h1 : (i 1).val = r) (h2 : (i 2).val = c) : i = at3 b r c := by
  subst h0 h1 h2; exact (at3_self i).symm

variable [FloatOps F]

/-- The sum of the last `n` entries of column `c` of batch `b`: zero for none, and each further entry, going upwards, is
    added to the sum of those below it. -/
def tail (x : S2x2048x2048.Idx → F .f32) (b c : ℕ) : ℕ → F .f32
  | 0 => Scalar.ofBits .f32 0x00000000#32
  | n + 1 => FloatOps.addf (x (at3 b (2047 - n) c)) (tail x b c n)

/-- The result array: at each index the sum of the column's entries from that row to the last. -/
def sums (x : S2x2048x2048.Idx → F .f32) : S2x2048x2048.Idx → F .f32 := fun i => tail x (i 0) (i 2) (2048 - (i 1).val)

/-- What a slot holds for the tile at batch `b` and columns from `c0`, in block `k` (counted from the bottom), after `t`
    rows of the block and the first `16 * g` columns of the next: sums on what has been walked, the operand elsewhere. -/
def swept (x : S2x2048x2048.Idx → F .f32) (b c0 k t g : ℕ) : S3x256x128.Idx → F .f32 := fun i =>
  if 256 ≤ (i 1).val + t ∨ ((i 1).val + t = 255 ∧ (i 2).val < 16 * g)
  then tail x b (c0 + (i 2).val) (256 * k + 256 - (i 1).val)
  else x (at3 b (1792 - 256 * k + (i 1).val) (c0 + (i 2).val))

/-- The sums carried into the next row, columns `16 * g` to `16 * g + 15` of the tile, after `n` rows. -/
def carried (x : S2x2048x2048.Idx → F .f32) (b c0 n g : ℕ) : FVec F S16 .f32 := fun l => tail x b (c0 + (16 * g + (l 0).val)) n

/-- Before its first row a block holds the operand. -/
theorem swept_zero (x : S2x2048x2048.Idx → F .f32) (b c0 k : ℕ) (i : S3x256x128.Idx) :
    swept x b c0 k 0 0 i = x (at3 b (1792 - 256 * k + (i 1).val) (c0 + (i 2).val)) := by
  have h : (i 1).val < 256 := (i 1).isLt
  unfold swept
  rw [if_neg (by omega)]

/-- All eight groups of a row are the row. -/
theorem swept_row (x : S2x2048x2048.Idx → F .f32) (b c0 k t : ℕ) : swept x b c0 k t 8 = swept x b c0 k (t + 1) 0 := by
  funext i
  have h : (i 2).val < 128 := (i 2).isLt
  unfold swept
  congr 1
  exact propext (by omega)

/-- After its last row a block holds sums only. -/
theorem swept_all (x : S2x2048x2048.Idx → F .f32) (b c0 k : ℕ) (i : S3x256x128.Idx) :
    swept x b c0 k 256 0 i = tail x b (c0 + (i 2).val) (256 * k + 256 - (i 1).val) := by
  unfold swept
  rw [if_pos (by omega)]

/-- Before any row nothing is carried. -/
theorem carried_zero (x : S2x2048x2048.Idx → F .f32) (b c0 g : ℕ) :
    carried x b c0 0 g = broadcast S16 (Scalar.ofBits .f32 0x00000000#32 : F .f32) := rfl

/-- One entry more: what the walk reads at the next row, added to what it carries, is carried on. -/
theorem carried_succ (x : S2x2048x2048.Idx → F .f32) (b c0 k t g : ℕ) (hk : k < 8) (ht : t < 256) (l : S16.Idx) (i : S3x256x128.Idx)
    (h1 : (i 1).val = 255 - t) (h2 : (i 2).val = 16 * g + (l 0).val) :
    FloatOps.addf (swept x b c0 k t g i) (carried x b c0 (256 * k + t) g l) = carried x b c0 (256 * k + (t + 1)) g l := by
  unfold swept
  rw [if_neg (by omega), h1, h2, show 1792 - 256 * k + (255 - t) = 2047 - (256 * k + t) by omega]
  rfl

/-- Storing the new sums of group `g` of the row is one more group walked. -/
theorem swept_hit (x : S2x2048x2048.Idx → F .f32) (b c0 k t g : ℕ) (ht : t < 256) (l : S16.Idx) (i : S3x256x128.Idx)
    (h1 : (i 1).val = 255 - t) (h2 : (i 2).val = 16 * g + (l 0).val) :
    swept x b c0 k t (g + 1) i = carried x b c0 (256 * k + (t + 1)) g l := by
  have hl : (l 0).val < 16 := (l 0).isLt
  unfold swept carried
  rw [if_pos (by omega), h1, h2, show 256 * k + 256 - (255 - t) = 256 * k + (t + 1) by omega]

/-- Every element outside group `g` of the row is as it was. -/
theorem swept_miss (x : S2x2048x2048.Idx → F .f32) (b c0 k t g : ℕ) (ht : t < 256) (i : S3x256x128.Idx)
    (h : ¬ ((i 1).val = 255 - t ∧ 16 * g ≤ (i 2).val ∧ (i 2).val < 16 * g + 16)) :
    swept x b c0 k t (g + 1) i = swept x b c0 k t g i := by
  unfold swept
  congr 1
  exact propext (by omega)

end Cert.Proof.Suffix

end
-- ==== Proof.Walk.lean ====
/-
  One row of a block, and one block. A row is eight groups of sixteen columns; a group loads what the slot holds there,
  adds what is carried from the row below, stores the sum back and carries it on. The step of one group is proved once, for
  any slot, block, row and group; a row is eight of them, and a block's loop is 256 rows by its invariant.
-/
module

public import proofs.«01_k».proof.Proof.Columns
public import proofs.«01_k».proof.Proof.Gen.KernelIdeal.Skeleton
public import Idealize.ShloMosaic.Lib.SparseCore.Quiescent
public import Idealize.ShloMosaic.Lib.Pipeline.Kit
public import Idealize.ShloMosaic.Lib.Tactic
public import Idealize.ShloMosaic.Lib.Pointwise

@[expose] public section

noncomputable section

namespace Cert.Proof.Suffix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The resources: rounds for the launch's handshakes, counters for the tiles' own transfers. -/
abbrev UH : Type := URounds (GSem nD τ sig) ℕ
abbrev UU : Type := UH × Counters

local notation "𝕄" => MT nD τ sig (HIx 1) (Elt F) ℕ UU ℕ

-- the tile's buffer, as the launch passes it
local notation "bufV" => (Memref.whole Cert.KernelIdeal.cc0_scratch0 : Memref Cert.KernelIdeal.sig Kind.scVector Space.vmem Cert.KernelIdeal.S3x256x128 EltTy.f32)

abbrev 𝒱₀ : Variants := Variants.none

/-- The SparseCore and the subcore of a task. -/
abbrev cV (L : grid0.Coords) : Fin τ.nSC := (L 0).castLE hcore0
abbrev jV (L : grid0.Coords) : Fin τ.nSub := (L 1).castLE hsub0

/-- The programs a tile runs. -/
abbrev TileProg (F : FTy → Type) (L : grid0.Coords) : Type → Type 1 :=
  Prog (TpuEff nD τ sig (Elt F) Λ₀ (.scVector (cV L) (jV L)))

/-- Sixteen columns of one row of one slot lie in the buffer. -/
abbrev GroupInb (o : Fin 3 → ℕ) : Prop := ∀ a, o a + S1x1x16.size a ≤ S3x256x128.size a

variable [FloatOps F]

/-- One group: load, load again (unused), store the sum with what is carried, carry the sum. -/
def groupStep (L : grid0.Coords) (o : Fin 3 → ℕ) (ho : GroupInb o) (acc : FVec F S16 .f32) : TileProg F L (FVec F S16 .f32) := do
  let v : Vec F S1x1x16 .f32 ← Prog.lift (.load bufV (Rect.unit (s := S3x256x128) o S1x1x16.size ho).toLoadRect (View.loadsAt_vmem h_S1x1x16))
  let _ : Vec F S1x1x16 .f32 ← Prog.lift (.load bufV (Rect.unit (s := S3x256x128) o S1x1x16.size ho).toLoadRect (View.loadsAt_vmem h_S1x1x16))
  Prog.lift (.store bufV (Rect.unit (s := S3x256x128) o S1x1x16.size ho)
    (shapeCast S1x1x16 (addf (shapeCast S16 v shapeCasts_S1x1x16_S16) acc) shapeCasts_S16_S1x1x16)
    Finset.univ (View.stores_vmem_bits_univ h_S1x1x16 rfl) (.inl rfl))
  pure (addf (shapeCast S16 v shapeCasts_S1x1x16_S16) acc)

/-- The eight carried groups. -/
abbrev Carry (F : FTy → Type) : Type :=
  FVec F S16 .f32 × FVec F S16 .f32 × FVec F S16 .f32 × FVec F S16 .f32 × FVec F S16 .f32 × FVec F S16 .f32 × FVec F S16 .f32 × FVec F S16 .f32

/-- One row: its eight groups, in order. -/
def rowStep (L : grid0.Coords) (o : Fin 8 → Fin 3 → ℕ) (ho : ∀ g, GroupInb (o g)) (acc : Carry F) : TileProg F L (Carry F) := do
  let a0 ← groupStep L (o 0) (ho 0) acc.1
  let a1 ← groupStep L (o 1) (ho 1) acc.2.1
  let a2 ← groupStep L (o 2) (ho 2) acc.2.2.1
  let a3 ← groupStep L (o 3) (ho 3) acc.2.2.2.1
  let a4 ← groupStep L (o 4) (ho 4) acc.2.2.2.2.1
  let a5 ← groupStep L (o 5) (ho 5) acc.2.2.2.2.2.1
  let a6 ← groupStep L (o 6) (ho 6) acc.2.2.2.2.2.2.1
  let a7 ← groupStep L (o 7) (ho 7) acc.2.2.2.2.2.2.2
  pure (a0, a1, a2, a3, a4, a5, a6, a7)

/-- The carried groups after `n` rows. -/
abbrev carriedAll (x : S2x2048x2048.Idx → F .f32) (b c0 n : ℕ) : Carry F :=
  (carried x b c0 n 0, carried x b c0 n 1, carried x b c0 n 2, carried x b c0 n 3,
    carried x b c0 n 4, carried x b c0 n 5, carried x b c0 n 6, carried x b c0 n 7)

section Steps

variable (d : Dev nD) (L : grid0.Coords) (x : S2x2048x2048.Idx → F .f32) (b c0 s k : ℕ)
  (I : Finset S3x256x128.Idx)

/-- The slot `I` of the tile's buffer, held at the contents `f`. -/
abbrev slotAt (f : S3x256x128.Idx → F .f32) : sProp 𝕄 := (bufV).view.loc (V d (cV L) (jV L)) ↦[I]{fullShare} f

omit [FloatOps F] in
/-- The element under index `j` of a group's rectangle. -/
theorem group_emb (o : Fin 3 → ℕ) (ho : GroupInb o) (j : S1x1x16.Idx) :
    ∀ a, (((bufV).view.slice (Rect.unit (s := S3x256x128) o S1x1x16.size ho)).emb j a : ℕ) = o a + (j a : ℕ) := by
  intro a
  show o a + 1 * (j a : ℕ) = _
  rw [Nat.one_mul]

omit [FloatOps F] in
/-- A group of the slot lies in the slot. -/
theorem group_subset (hI : ∀ i : S3x256x128.Idx, i ∈ I ↔ (i 0).val = s) (o : Fin 3 → ℕ) (ho : GroupInb o) (hs : o 0 = s) :
    (((bufV).access (Rect.unit (s := S3x256x128) o S1x1x16.size ho)).set : Finset S3x256x128.Idx) ⊆ I := by
  intro i hi
  obtain ⟨j, -, rfl⟩ := Finset.mem_map.mp hi
  refine (hI _).mpr ((group_emb o ho j 0).trans ?_)
  have : (j 0 : ℕ) < 1 := (j 0).isLt
  omega

omit [FloatOps F] in
/-- Lane `l` of a group as sixteen lanes is column `l` of it as a piece of a row. -/
theorem lane_col (h : S1x1x16.numel = S16.numel) (j : S1x1x16.Idx) : ((Shape.reshapeEquiv h j) 0 : ℕ) = (j 2 : ℕ) := by
  have e := Shape.rowMajor_reshapeEquiv h j
  have h0 : (j 0 : ℕ) < 1 := (j 0).isLt
  have h1 : (j 1 : ℕ) < 1 := (j 1).isLt
  rw [Shape.rowMajor_val_one, Shape.rowMajor_val_three] at e
  have e' : ((Shape.reshapeEquiv h j) 0 : ℕ) = ((j 0 : ℕ) * 1 + (j 1 : ℕ)) * 16 + (j 2 : ℕ) := e
  omega

/-- One group of one row of one block: the sums of that group are stored and carried. -/
theorem groupStep_wp (hk : k < 8) (hI : ∀ i : S3x256x128.Idx, i ∈ I ↔ (i 0).val = s) (t : ℕ) (ht : t < 256) (g : ℕ)
    (o : Fin 3 → ℕ) (ho : GroupInb o) (e : o = ![s, 255 - t, 16 * g]) :
    slotAt d L I (swept x b c0 k t g)
      ⊢ wp frame (wpE (defs₀ (F := F)) 𝒱₀ (V d (cV L) (jV L)) none) Set.univ (groupStep L o ho (carried x b c0 (256 * k + t) g))
          fun v => iprop(⌜v = carried x b c0 (256 * k + (t + 1)) g⌝ ∗ slotAt d L I (swept x b c0 k t (g + 1)) : sProp 𝕄) := by
  have h0 : o 0 = s := by rw [e]; rfl
  have h1 : o 1 = 255 - t := by rw [e]; rfl
  have h2 : o 2 = 16 * g := by rw [e]; rfl
  have hset := group_subset s I hI o ho h0
  -- an element of the group, by its index there
  have hemb := group_emb o ho
  -- what the two sums of the group are
  have hsum : addf (shapeCast S16 (((bufV).access (Rect.unit (s := S3x256x128) o S1x1x16.size ho)).read (Elt F) (swept x b c0 k t g)) shapeCasts_S1x1x16_S16)
      (carried x b c0 (256 * k + t) g) = carried x b c0 (256 * k + (t + 1)) g := by
    funext l
    have hl := lane_col shapeCasts_S16_S1x1x16 (Shape.reshapeEquiv shapeCasts_S1x1x16_S16 l)
    rw [Shape.reshapeEquiv_reshapeEquiv, Shape.reshapeEquiv_self] at hl
    refine carried_succ x b c0 k t g hk ht l _ ?_ ?_
    · have hj : ((Shape.reshapeEquiv shapeCasts_S1x1x16_S16 l) 1 : ℕ) < 1 := ((Shape.reshapeEquiv shapeCasts_S1x1x16_S16 l) 1).isLt
      exact (hemb (Shape.reshapeEquiv shapeCasts_S1x1x16_S16 l) 1).trans (by omega)
    · exact (hemb (Shape.reshapeEquiv shapeCasts_S1x1x16_S16 l) 2).trans (by rw [hl, h2])
  have hstore : ∀ i ∈ I, ((bufV).access (Rect.unit (s := S3x256x128) o S1x1x16.size ho)).write (Elt F) (swept x b c0 k t g)
      (shapeCast S1x1x16 (carried x b c0 (256 * k + (t + 1)) g) shapeCasts_S16_S1x1x16) Finset.univ i = swept x b c0 k t (g + 1) i := by
    intro i hiI
    by_cases hi : i ∈ ((bufV).access (Rect.unit (s := S3x256x128) o S1x1x16.size ho)).set
    · obtain ⟨j, -, rfl⟩ := Finset.mem_map.mp hi
      rw [View.write_emb_of_mem _ _ (Finset.mem_univ j)]
      have hj : (j 1 : ℕ) < 1 := (j 1).isLt
      refine (swept_hit x b c0 k t g ht (Shape.reshapeEquiv shapeCasts_S16_S1x1x16 j) _ ?_ ?_).symm
      · exact (hemb j 1).trans (by omega)
      · exact (hemb j 2).trans (by rw [lane_col shapeCasts_S16_S1x1x16 j, h2])
    · rw [View.write_of_not_mem _ _ _ (by rwa [View.setOn_univ])]
      refine (swept_miss x b c0 k t g ht i fun hc => hi ?_).symm
      have hi0 := (hI i).mp hiI
      rw [View.set_slice_whole]
      refine Rect.mem_set_unit.mpr fun a => ?_
      match a with
      | 0 => exact ⟨by omega, by show _ < o 0 + 1; omega⟩
      | 1 => exact ⟨by omega, by show _ < o 1 + 1; omega⟩
      | 2 => exact ⟨by omega, by show _ < o 2 + 16; omega⟩
  unfold groupStep
  iintro H
  iapply (wp_load_rect 𝒱₀ (V d (cV L) (jV L)) none Set.univ hset) $$ H
  iintro H
  iapply (wp_load_rect 𝒱₀ (V d (cV L) (jV L)) none Set.univ hset) $$ H
  iintro H
  iapply (wp_store 𝒱₀ (V d (cV L) (jV L)) none Set.univ (by rw [View.setOn_univ]; exact hset)) $$ H
  iintro H
  rw [hsum]
  ihave H := (Entails.of_eq (pointsTo_congr hstore)) $$ H
  iapply (le_wp_ret _ _)
  isplitr [H]
  · ipureintro; rfl
  · iassumption

/-- One group, then the rest of the program. -/
theorem groupStep_then (hk : k < 8) (hI : ∀ i : S3x256x128.Idx, i ∈ I ↔ (i 0).val = s) (t : ℕ) (ht : t < 256) (g : ℕ)
    (o : Fin 3 → ℕ) (ho : GroupInb o) (e : o = ![s, 255 - t, 16 * g]) {β : Type} {kk : FVec F S16 .f32 → TileProg F L β} {Q : β → sProp 𝕄}
    (h : slotAt d L I (swept x b c0 k t (g + 1)) ⊢ wp frame (wpE (defs₀ (F := F)) 𝒱₀ (V d (cV L) (jV L)) none) Set.univ (kk (carried x b c0 (256 * k + (t + 1)) g)) Q) :
    slotAt d L I (swept x b c0 k t g)
      ⊢ wp frame (wpE (defs₀ (F := F)) 𝒱₀ (V d (cV L) (jV L)) none) Set.univ (groupStep L o ho (carried x b c0 (256 * k + t) g) >>= kk) Q := by
  rw [wp_bind]
  refine (groupStep_wp d L x b c0 s k I hk hI t ht g o ho e).trans (wp_mono _ _ _ fun v => ?_)
  iintro ⟨%hv, H⟩
  subst hv
  iapply h $$ H

/-- One row of one block: its sums are stored and carried on. -/
theorem rowStep_wp (hk : k < 8) (hI : ∀ i : S3x256x128.Idx, i ∈ I ↔ (i 0).val = s) (t : ℕ) (ht : t < 256)
    (o : Fin 8 → Fin 3 → ℕ) (ho : ∀ g, GroupInb (o g)) (e : ∀ g : Fin 8, o g = ![s, 255 - t, 16 * g.val]) :
    slotAt d L I (swept x b c0 k t 0)
      ⊢ wp frame (wpE (defs₀ (F := F)) 𝒱₀ (V d (cV L) (jV L)) none) Set.univ (rowStep L o ho (carriedAll x b c0 (256 * k + t)))
          fun v => iprop(⌜v = carriedAll x b c0 (256 * k + (t + 1))⌝ ∗ slotAt d L I (swept x b c0 k (t + 1) 0)) := by
  unfold rowStep
  refine groupStep_then d L x b c0 s k I hk hI t ht 0 (o 0) (ho 0) (e 0) ?_
  refine groupStep_then d L x b c0 s k I hk hI t ht 1 (o 1) (ho 1) (e 1) ?_
  refine groupStep_then d L x b c0 s k I hk hI t ht 2 (o 2) (ho 2) (e 2) ?_
  refine groupStep_then d L x b c0 s k I hk hI t ht 3 (o 3) (ho 3) (e 3) ?_
  refine groupStep_then d L x b c0 s k I hk hI t ht 4 (o 4) (ho 4) (e 4) ?_
  refine groupStep_then d L x b c0 s k I hk hI t ht 5 (o 5) (ho 5) (e 5) ?_
  refine groupStep_then d L x b c0 s k I hk hI t ht 6 (o 6) (ho 6) (e 6) ?_
  refine groupStep_then d L x b c0 s k I hk hI t ht 7 (o 7) (ho 7) (e 7) ?_
  rw [show swept x b c0 k t (7 + 1) = swept x b c0 k (t + 1) 0 from swept_row x b c0 k t]
  iintro H
  iapply (le_wp_ret _ _)
  isplitr [H]
  · ipureintro; rfl
  · iassumption

/-- One block: a loop of 256 rows, each of them a row step, leaves the block's sums in the slot and carries them on. -/
theorem block_wp (hk : k < 8) (hI : ∀ i : S3x256x128.Idx, i ∈ I ↔ (i 0).val = s) (l : Scf.Loop 32) (hl : l.trips = 256) (hok : l.OK)
    (body : Fin l.trips → Carry F → TileProg F L (Carry F))
    (hbody : ∀ t acc, ∃ (o : Fin 8 → Fin 3 → ℕ) (ho : ∀ g, GroupInb (o g)), body t acc = rowStep L o ho acc ∧ ∀ g : Fin 8, o g = ![s, 255 - t.val, 16 * g.val])
    (f : S3x256x128.Idx → F .f32) (hf : ∀ i ∈ I, f i = swept x b c0 k 0 0 i)
    {β : Type} {kk : Carry F → TileProg F L β} {Q : β → sProp 𝕄} :
    slotAt d L I f
      ⊢ iprop((slotAt d L I (swept x b c0 k 256 0) -∗ wp frame (wpE (defs₀ (F := F)) 𝒱₀ (V d (cV L) (jV L)) none) Set.univ (kk (carriedAll x b c0 (256 * (k + 1)))) Q)
        -∗ wp frame (wpE (defs₀ (F := F)) 𝒱₀ (V d (cV L) (jV L)) none) Set.univ (Scf.Loop.for l hok (carriedAll x b c0 (256 * k)) body >>= kk) Q) := by
  iintro H HK
  ihave H := (Entails.of_eq (pointsTo_congr hf)) $$ H
  iapply (Scf.wp_for_bind _ _ _ l.lb l.ub l.st hok _ body
    (fun t acc => iprop(⌜acc = carriedAll x b c0 (256 * k + t)⌝ ∗ slotAt d L I (swept x b c0 k t 0))) ?_) $$ [H] [HK]
  · intro t acc
    obtain ⟨o, ho, hb, e⟩ := hbody t acc
    have ht : t.val < 256 := lt_of_lt_of_eq t.isLt hl
    rw [hb]
    iintro ⟨%ha, H⟩
    subst ha
    iapply (rowStep_wp d L x b c0 s k I hk hI t.val ht o ho e) $$ H
  · isplitr [H]
    · ipureintro; rfl
    · iassumption
  · iintro %acc ⟨%ha, H⟩
    have hl' : Scf.trips l.lb l.ub l.st = 256 := hl
    rw [hl'] at ha
    subst ha
    rw [hl', show 256 * k + 256 = 256 * (k + 1) from rfl]
    iapply HK $$ H

end Steps

end Cert.Proof.Suffix

end
-- ==== Proof.Rows.lean ====
/-
  A block's loop at a slot: each trip is a row step at the groups of one row, counted down from the block's last. The
  kernel's eight loops are this one at another slot.
-/
module

public import proofs.«01_k».proof.Proof.Walk

@[expose] public section

noncomputable section

namespace Cert.Proof.Suffix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where group `g` of trip `t` lies in slot `s`, as the kernel computes it. -/
def groupOff (s t : ℕ) (g : Fin 8) : Fin 3 → ℕ := ![s, (Scalar.indexCast (Scalar.subi 255#32 (Scf.iv 0#32 1#32 t))).toNat, 16 * g.val]

/-- Trip `t` counts the rows down from the last one. -/
theorem groupOff_eq (s t : ℕ) (ht : t < 256) (g : Fin 8) : groupOff s t g = ![s, 255 - t, 16 * g.val] := by
  have h := congrFun (k0_off3_eq ⟨t, ht⟩) 1
  have h' : (Scalar.indexCast (Scalar.subi 255#32 (Scf.iv 0#32 1#32 t))).toNat = 255 - t := h
  unfold groupOff
  rw [h']

/-- Every group of a slot lies in the buffer. -/
theorem groupOff_inb (s t : ℕ) (hs : s < 3) (ht : t < 256) (g : Fin 8) : GroupInb (groupOff s t g) := by
  rw [groupOff_eq s t ht g]
  have := g.isLt
  intro a
  match a with
  | 0 => show s + 1 ≤ 3; omega
  | 1 => show 255 - t + 1 ≤ 256; omega
  | 2 => show 16 * g.val + 16 ≤ 128; omega

/-- One trip of a block's loop at slot `s`. -/
def rowAt (L : grid0.Coords) (s : Fin 3) (t : Fin 256) (acc : Carry F) : TileProg F L (Carry F) :=
  rowStep L (groupOff s.val t.val) (groupOff_inb s.val t.val s.isLt t.isLt) acc

/-- One block at slot `s`: from the block's elements of the argument in the slot to the block's sums there, the carried
    sums going from the ones before the block to the ones after it. -/
theorem slot_block (d : Dev nD) (L : grid0.Coords) (x : S2x2048x2048.Idx → F .f32) (b c0 k : ℕ) (s : Fin 3) (I : Finset S3x256x128.Idx)
    (hk : k < 8) (hI : ∀ i : S3x256x128.Idx, i ∈ I ↔ (i 0).val = s.val) (l : Scf.Loop 32) (hl : l.trips = 256) (hok : l.OK)
    (body : Fin l.trips → Carry F → TileProg F L (Carry F)) (hbody : ∀ t acc, body t acc = rowAt L s (Fin.cast hl t) acc)
    (f : S3x256x128.Idx → F .f32) (hf : ∀ i ∈ I, f i = swept x b c0 k 0 0 i)
    {β : Type} {kk : Carry F → TileProg F L β} {Q : β → sProp (MT nD τ sig (HIx 1) (Elt F) ℕ UU ℕ)} :
    slotAt d L I f
      ⊢ iprop((slotAt d L I (swept x b c0 k 256 0) -∗ wp frame (wpE (defs₀ (F := F)) 𝒱₀ (V d (cV L) (jV L)) none) Set.univ (kk (carriedAll x b c0 (256 * (k + 1)))) Q)
        -∗ wp frame (wpE (defs₀ (F := F)) 𝒱₀ (V d (cV L) (jV L)) none) Set.univ (Scf.Loop.for l hok (carriedAll x b c0 (256 * k)) body >>= kk) Q) :=
  block_wp d L x b c0 s.val k I hk hI l hl hok body
    (fun t acc => ⟨groupOff s.val t.val, groupOff_inb s.val t.val s.isLt (lt_of_lt_of_eq t.isLt hl), hbody t acc,
      fun g => groupOff_eq s.val t.val (lt_of_lt_of_eq t.isLt hl) g⟩) f hf

end Cert.Proof.Suffix

end
-- ==== Proof.Places.lean ====
/-
  Where the tile's copies go: the three slots of its buffer and its eight blocks of the arrays, as the kernel's views name
  them, the elements each holds, and what a copy from a block to a slot or back leaves.
-/
module

public import proofs.«01_k».proof.Proof.Rows

@[expose] public section

noncomputable section

namespace Cert.Proof.Suffix

open Cert.KernelIdeal Cert.KernelIdeal.Gen

open Idealize.ShloMosaic

variable {F : FTy → Type}

local notation "xV" => (Memref.whole Cert.KernelIdeal.main_arg0_scv : Memref Cert.KernelIdeal.sig Kind.scVector Space.hbm Cert.KernelIdeal.S2x2048x2048 EltTy.f32)
local notation "oV" => (Memref.whole Cert.KernelIdeal.main_v0_scv : Memref Cert.KernelIdeal.sig Kind.scVector Space.hbm Cert.KernelIdeal.S2x2048x2048 EltTy.f32)
local notation "bufV" => (Memref.whole Cert.KernelIdeal.cc0_scratch0 : Memref Cert.KernelIdeal.sig Kind.scVector Space.vmem Cert.KernelIdeal.S3x256x128 EltTy.f32)

/-- A slot of the buffer, and a block of an array, of 256 rows and 128 columns, from an offset. -/
abbrev SlotInb (o : Fin 3 → ℕ) : Prop := ∀ a, o a + S1x256x128.size a ≤ S3x256x128.size a
abbrev BlkInb (o : Fin 3 → ℕ) : Prop := ∀ a, o a + S1x256x128.size a ≤ S2x2048x2048.size a
abbrev slotMem (o : Fin 3 → ℕ) (h : SlotInb o) : Memref sig .scVector .vmem S256x128 .f32 :=
  ((bufV).slice (Rect.unit (s := S3x256x128) o S1x256x128.size h) (fun _ => rfl)).squeeze S256x128 squeezes_S1x256x128_S256x128
abbrev xMem (o : Fin 3 → ℕ) (h : BlkInb o) : Memref sig .scVector .hbm S256x128 .f32 :=
  ((xV).slice (Rect.unit (s := S2x2048x2048) o S1x256x128.size h) (fun _ => rfl)).squeeze S256x128 squeezes_S1x256x128_S256x128
abbrev oMem (o : Fin 3 → ℕ) (h : BlkInb o) : Memref sig .scVector .hbm S256x128 .f32 :=
  ((oV).slice (Rect.unit (s := S2x2048x2048) o S1x256x128.size h) (fun _ => rfl)).squeeze S256x128 squeezes_S1x256x128_S256x128

/-- The index under row `j 0` and column `j 1`. -/
theorem lift_val (h : S256x128.numel = S1x256x128.numel) (j : S256x128.Idx) :
    ((Shape.reshapeEquiv h j) 0 : ℕ) = 0 ∧ ((Shape.reshapeEquiv h j) 1 : ℕ) = j 0 ∧ ((Shape.reshapeEquiv h j) 2 : ℕ) = j 1 := by
  have e := Shape.rowMajor_reshapeEquiv h j
  have h0 : ((Shape.reshapeEquiv h j) 0 : ℕ) < 1 := ((Shape.reshapeEquiv h j) 0).isLt
  have h1 : ((Shape.reshapeEquiv h j) 1 : ℕ) < 256 := ((Shape.reshapeEquiv h j) 1).isLt
  have h2 : ((Shape.reshapeEquiv h j) 2 : ℕ) < 128 := ((Shape.reshapeEquiv h j) 2).isLt
  have h3 : (j 0 : ℕ) < 256 := (j 0).isLt
  have h4 : (j 1 : ℕ) < 128 := (j 1).isLt
  rw [Shape.rowMajor_val_two, Shape.rowMajor_val_three] at e
  have e' : (((Shape.reshapeEquiv h j) 0 : ℕ) * 256 + ((Shape.reshapeEquiv h j) 1 : ℕ)) * 128 + ((Shape.reshapeEquiv h j) 2 : ℕ) = (j 0 : ℕ) * 128 + (j 1 : ℕ) := e
  omega

/-- The element of the buffer under an index of a slot. -/
theorem slot_emb (o : Fin 3 → ℕ) (h : SlotInb o) (j : S256x128.Idx) :
    (((slotMem o h).view.emb j) 0 : ℕ) = o 0 ∧ (((slotMem o h).view.emb j) 1 : ℕ) = o 1 + j 0 ∧ (((slotMem o h).view.emb j) 2 : ℕ) = o 2 + j 1 := by
  obtain ⟨l0, l1, l2⟩ := lift_val squeezes_S1x256x128_S256x128.numel_eq j
  have e : ∀ a, (((slotMem o h).view.emb j) a : ℕ) = o a + 1 * ((Shape.reshapeEquiv squeezes_S1x256x128_S256x128.numel_eq j) a : ℕ) := fun _ => rfl
  exact ⟨(e 0).trans (by omega), (e 1).trans (by omega), (e 2).trans (by omega)⟩

/-- The element of the argument under an index of a block. -/
theorem blk_emb (o : Fin 3 → ℕ) (h : BlkInb o) (j : S256x128.Idx) :
    (((xMem o h).view.emb j) 0 : ℕ) = o 0 ∧ (((xMem o h).view.emb j) 1 : ℕ) = o 1 + j 0 ∧ (((xMem o h).view.emb j) 2 : ℕ) = o 2 + j 1 := by
  obtain ⟨l0, l1, l2⟩ := lift_val squeezes_S1x256x128_S256x128.numel_eq j
  have e : ∀ a, (((xMem o h).view.emb j) a : ℕ) = o a + 1 * ((Shape.reshapeEquiv squeezes_S1x256x128_S256x128.numel_eq j) a : ℕ) := fun _ => rfl
  exact ⟨(e 0).trans (by omega), (e 1).trans (by omega), (e 2).trans (by omega)⟩

/-- The elements of a block, of either array. -/
abbrev blkSet (o : Fin 3 → ℕ) (h : BlkInb o) : Finset S2x2048x2048.Idx := (Rect.unit (s := S2x2048x2048) o S1x256x128.size h).set

theorem set_xMem (o : Fin 3 → ℕ) (h : BlkInb o) : ((xMem o h).view.set : Finset S2x2048x2048.Idx) = blkSet o h := by
  show (((xV).view.slice (Rect.unit (s := S2x2048x2048) o S1x256x128.size h)).reshape S256x128 squeezes_S1x256x128_S256x128.numel_eq).set = _
  rw [View.set_reshape, View.set_slice_whole]

theorem set_oMem (o : Fin 3 → ℕ) (h : BlkInb o) : ((oMem o h).view.set : Finset S2x2048x2048.Idx) = blkSet o h := by
  show (((oV).view.slice (Rect.unit (s := S2x2048x2048) o S1x256x128.size h)).reshape S256x128 squeezes_S1x256x128_S256x128.numel_eq).set = _
  rw [View.set_reshape, View.set_slice_whole]

/-- A slot holds the elements of its plane. -/
theorem mem_slot (s : ℕ) (h : SlotInb ![s, 0, 0]) (i : S3x256x128.Idx) : i ∈ ((slotMem ![s, 0, 0] h).view.set : Finset S3x256x128.Idx) ↔ (i 0).val = s := by
  have e : ((slotMem ![s, 0, 0] h).view.set : Finset S3x256x128.Idx) = (Rect.unit (s := S3x256x128) ![s, 0, 0] S1x256x128.size h).set := by
    show (((bufV).view.slice (Rect.unit (s := S3x256x128) ![s, 0, 0] S1x256x128.size h)).reshape S256x128 squeezes_S1x256x128_S256x128.numel_eq).set = _
    rw [View.set_reshape, View.set_slice_whole]
  rw [e, Rect.mem_set_unit]
  have h1 : (i 1 : ℕ) < 256 := (i 1).isLt
  have h2 : (i 2 : ℕ) < 128 := (i 2).isLt
  constructor
  · intro hi
    have h0 : s ≤ (i 0).val ∧ (i 0).val < s + 1 := hi 0
    omega
  · intro hi a
    match a with
    | 0 => show s ≤ (i 0).val ∧ (i 0).val < s + 1; omega
    | 1 => show 0 ≤ (i 1).val ∧ (i 1).val < 0 + 256; omega
    | 2 => show 0 ≤ (i 2).val ∧ (i 2).val < 0 + 128; omega

variable [FloatOps F]

/-- A copy of block `k` into a slot leaves there the elements the sweep starts from. -/
theorem copied_in (x : S2x2048x2048.Idx → F .f32) (b c0 k s : ℕ) (hk : k < 8) (o : Fin 3 → ℕ) (h : BlkInb o) (e : o = ![b, 1792 - 256 * k, c0])
    (hs : SlotInb ![s, 0, 0]) (f : S3x256x128.Idx → F .f32) :
    ∀ i ∈ ((slotMem ![s, 0, 0] hs).view.set : Finset S3x256x128.Idx),
      (slotMem ![s, 0, 0] hs).view.write (Elt F) f ((xMem o h).view.read (Elt F) x) Finset.univ i = swept x b c0 k 0 0 i := by
  intro i hi
  obtain ⟨j, -, rfl⟩ := Finset.mem_map.mp hi
  rw [View.write_emb_of_mem _ _ (Finset.mem_univ j), View.read_apply, swept_zero]
  obtain ⟨s0, s1, s2⟩ := slot_emb ![s, 0, 0] hs j
  obtain ⟨b0, b1, b2⟩ := blk_emb o h j
  subst e
  refine congrArg x (eq_at3 _ b0 (b1.trans ?_) (b2.trans ?_))
  · show 1792 - 256 * k + (j 0 : ℕ) = _
    rw [s1]; show _ = _ + (0 + (j 0 : ℕ)); omega
  · show c0 + (j 1 : ℕ) = _
    rw [s2]; show _ = _ + (0 + (j 1 : ℕ)); omega

/-- A copy of a slot out to block `k` leaves there the block's sums, when the slot holds them. -/
theorem copied_out (x : S2x2048x2048.Idx → F .f32) (b c0 k s : ℕ) (hk : k < 8) (o : Fin 3 → ℕ) (h : BlkInb o) (e : o = ![b, 1792 - 256 * k, c0])
    (hs : SlotInb ![s, 0, 0]) (f : S2x2048x2048.Idx → F .f32) :
    ∀ i ∈ ((oMem o h).view.set : Finset S2x2048x2048.Idx),
      (oMem o h).view.write (Elt F) f ((slotMem ![s, 0, 0] hs).view.read (Elt F) (swept x b c0 k 256 0)) Finset.univ i = sums x i := by
  intro i hi
  obtain ⟨j, -, rfl⟩ := Finset.mem_map.mp hi
  rw [View.write_emb_of_mem _ _ (Finset.mem_univ j), View.read_apply]
  obtain ⟨s0, s1, s2⟩ := slot_emb ![s, 0, 0] hs j
  obtain ⟨b0, b1, b2⟩ := blk_emb o h j
  subst e
  rw [swept_all]
  have hj : (j 0 : ℕ) < 256 := (j 0).isLt
  have b1' : (((oMem ![b, 1792 - 256 * k, c0] h).view.emb j) 1 : ℕ) = 1792 - 256 * k + (j 0 : ℕ) := b1
  have s1' : (((slotMem ![s, 0, 0] hs).view.emb j) 1 : ℕ) = 0 + (j 0 : ℕ) := s1
  have s2' : (((slotMem ![s, 0, 0] hs).view.emb j) 2 : ℕ) = 0 + (j 1 : ℕ) := s2
  have b0' : (((oMem ![b, 1792 - 256 * k, c0] h).view.emb j) 0 : ℕ) = b := b0
  have b2' : (((oMem ![b, 1792 - 256 * k, c0] h).view.emb j) 2 : ℕ) = c0 + (j 1 : ℕ) := b2
  unfold sums
  rw [b0', b1', b2', s1', s2']
  exact congrArg₂ (tail x b) (by omega) (by omega)

/-- The batch and the first column of a tile. -/
def batch (L : grid0.Coords) : ℕ := ((L 1).val * 2 + (L 0).val) / 16
def column (L : grid0.Coords) : ℕ := 128 * (((L 1).val * 2 + (L 0).val) % 16)

/-- Where the tile's blocks start, from the bottom one up, as the kernel computes it. -/
abbrev blkOff (L : grid0.Coords) : Fin 8 → Fin 3 → ℕ :=
  ![k0_off1 L, k0_off2 L, k0_off11 L, k0_off20 L, k0_off29 L, k0_off38 L, k0_off47 L, k0_off56 L]

omit [FloatOps F] in
/-- Block `k` is the 256 rows above the last `256 * k`, at the tile's batch and columns. -/
theorem blkOff_eq : ∀ (L : grid0.Coords) (k : Fin 8), blkOff L k = ![batch L, 1792 - 256 * k.val, column L] := by
  decide +kernel

omit [FloatOps F] in
/-- Every block lies in the arrays. -/
theorem blkOff_inb : ∀ (L : grid0.Coords) (k : Fin 8), BlkInb (blkOff L k) := by
  decide +kernel

/-- What has landed in a slot from block `k`. -/
theorem landed_in (x : S2x2048x2048.Idx → F .f32) (L : grid0.Coords) (k : Fin 8) (s : ℕ) (h : BlkInb (blkOff L k))
    (hs : SlotInb ![s, 0, 0]) (f : S3x256x128.Idx → F .f32) (w : S256x128.Idx → F .f32) (hw : w = (xMem (blkOff L k) h).view.read (Elt F) x) :
    ∀ i ∈ ((slotMem ![s, 0, 0] hs).view.set : Finset S3x256x128.Idx),
      (slotMem ![s, 0, 0] hs).view.writes (Elt F) f [⟨Rect.whole S256x128, w⟩] i = swept x (batch L) (column L) k 0 0 i := by
  subst hw
  intro i hi
  exact (congrFun (View.write_univ_eq_writes_whole (Val := Elt F) (slotMem ![s, 0, 0] hs).view f [] _) i).symm.trans
    (copied_in x (batch L) (column L) k s k.isLt (blkOff L k) h (blkOff_eq L k) hs f i hi)

/-- What has landed in block `k` of the result from a slot of its sums. -/
theorem landed_out (x : S2x2048x2048.Idx → F .f32) (L : grid0.Coords) (k : Fin 8) (s : ℕ) (h : BlkInb (blkOff L k))
    (hs : SlotInb ![s, 0, 0]) (f : S2x2048x2048.Idx → F .f32) (w : S256x128.Idx → F .f32)
    (hw : w = (slotMem ![s, 0, 0] hs).view.read (Elt F) (swept x (batch L) (column L) k 256 0)) :
    ∀ i ∈ ((oMem (blkOff L k) h).view.set : Finset S2x2048x2048.Idx),
      (oMem (blkOff L k) h).view.writes (Elt F) f [⟨Rect.whole S256x128, w⟩] i = sums x i := by
  subst hw
  intro i hi
  exact (congrFun (View.write_univ_eq_writes_whole (Val := Elt F) (oMem (blkOff L k) h).view f [] _) i).symm.trans
    (copied_out x (batch L) (column L) k s k.isLt (blkOff L k) h (blkOff_eq L k) hs f i hi)

end Cert.Proof.Suffix

end
-- ==== Proof.Tile.lean ====
/-
  The task of one tile: from its blocks of the two arrays and its buffer's slots, the kernel leaves the sums in the result's
  blocks and everything else as it was.
-/
module

public import proofs.«01_k».proof.Proof.Places

@[expose] public section

noncomputable section

namespace Cert.Proof.Suffix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S2x2048x2048 EltTy.f32)
local notation "oV" => (Memref.whole Cert.KernelIdeal.main_v0_scv : Memref Cert.KernelIdeal.sig Kind.scVector Space.hbm Cert.KernelIdeal.S2x2048x2048 EltTy.f32)
local notation "bufV" => (Memref.whole Cert.KernelIdeal.cc0_scratch0 : Memref Cert.KernelIdeal.sig Kind.scVector Space.vmem Cert.KernelIdeal.S3x256x128 EltTy.f32)

section Tile

variable (d : Dev nD) (L : grid0.Coords)

/-- A block of the argument, a block of the result, a slot, and the cells of the copies, as the tile holds them. -/
abbrev xAt (o : Fin 3 → ℕ) (h : BlkInb o) (f : S2x2048x2048.Idx → F .f32) : sProp 𝕄 :=
  (xMem o h).view.loc (V d (cV L) (jV L)) ↦[(xMem o h).view.set]{fullShare} f
abbrev oAt (o : Fin 3 → ℕ) (h : BlkInb o) (f : S2x2048x2048.Idx → F .f32) : sProp 𝕄 :=
  (oMem o h).view.loc (V d (cV L) (jV L)) ↦[(oMem o h).view.set]{fullShare} f
abbrev sAt (o : Fin 3 → ℕ) (h : SlotInb o) (f : S3x256x128.Idx → F .f32) : sProp 𝕄 :=
  (slotMem o h).view.loc (V d (cV L) (jV L)) ↦[(slotMem o h).view.set]{fullShare} f
abbrev semAt (a : DmaSems sig S3) (o : Fin 1 → ℕ) (h : ∀ i, o i + S1.size i ≤ S3.size i) : sProp 𝕄 :=
  semVal (V d (cV L) (jV L), .dma (((a.slice (Rect.unit (s := S3) o S1.size h)).squeeze S_ squeezes_S1_S_).sem)) 0

/-- Block `k` in slot `s`, from what has landed there and the sums carried so far. -/
theorem block_at (x : S2x2048x2048.Idx → F .f32) (k : Fin 8) (s : ℕ) (hs3 : s < 3) (hs : SlotInb ![s, 0, 0]) (h : BlkInb (blkOff L k))
    (l : Scf.Loop 32) (hl : l.trips = 256) (hok : l.OK)
    (body : Fin l.trips → Carry F → TileProg F L (Carry F)) (hbody : ∀ t acc, body t acc = rowAt L ⟨s, hs3⟩ (Fin.cast hl t) acc)
    (f : S3x256x128.Idx → F .f32) (w : S256x128.Idx → F .f32) (hw : w = (xMem (blkOff L k) h).view.read (Elt F) x)
    (acc : Carry F) (hacc : acc = carriedAll x (batch L) (column L) (256 * k.val))
    {β : Type} {kk : Carry F → TileProg F L β} {Q : β → sProp 𝕄} :
    sAt d L ![s, 0, 0] hs ((slotMem ![s, 0, 0] hs).view.writes (Elt F) f [⟨Rect.whole S256x128, w⟩])
      ⊢ iprop((sAt d L ![s, 0, 0] hs (swept x (batch L) (column L) k.val 256 0)
            -∗ wp frame (wpE (defs₀ (F := F)) 𝒱₀ (V d (cV L) (jV L)) none) Set.univ (kk (carriedAll x (batch L) (column L) (256 * (k.val + 1)))) Q)
        -∗ wp frame (wpE (defs₀ (F := F)) 𝒱₀ (V d (cV L) (jV L)) none) Set.univ (Scf.Loop.for l hok acc body >>= kk) Q) := by
  subst hacc
  exact slot_block d L x (batch L) (column L) k.val ⟨s, hs3⟩ _ k.isLt (mem_slot s hs) l hl hok body hbody _ (landed_in x L k s h hs f w hw)

/-- Block `k` of the result, from what has landed there from the slot of its sums. -/
theorem sums_at (x : S2x2048x2048.Idx → F .f32) (k : Fin 8) (s : ℕ) (hs : SlotInb ![s, 0, 0]) (o : Fin 3 → ℕ) (ho : o = blkOff L k) (h : BlkInb o)
    (f : S2x2048x2048.Idx → F .f32) (w : S256x128.Idx → F .f32)
    (hw : w = (slotMem ![s, 0, 0] hs).view.read (Elt F) (swept x (batch L) (column L) k.val 256 0)) :
    oAt d L o h ((oMem o h).view.writes (Elt F) f [⟨Rect.whole S256x128, w⟩]) ⊢ oAt d L o h (sums x) := by
  subst ho
  exact Entails.of_eq (pointsTo_congr (landed_out x L k s h hs f w hw))

omit [FloatOps F] in
/-- A tile's eight blocks one by one. -/
theorem eight_blocks (Φ : (o : Fin 3 → ℕ) → BlkInb o → sProp 𝕄) :
    (bigSep Finset.univ fun k : Fin 8 => Φ (blkOff L k) (blkOff_inb L k))
      = iprop(Φ (k0_off1 L) (k0_off1_inb L) ∗ Φ (k0_off2 L) (k0_off2_inb L) ∗ Φ (k0_off11 L) (k0_off11_inb L) ∗ Φ (k0_off20 L) (k0_off20_inb L) ∗ Φ (k0_off29 L) (k0_off29_inb L) ∗ Φ (k0_off38 L) (k0_off38_inb L) ∗ Φ (k0_off47 L) (k0_off47_inb L) ∗ Φ (k0_off56 L) (k0_off56_inb L)) := by
  rw [show (Finset.univ : Finset (Fin 8)) = {0, 1, 2, 3, 4, 5, 6, 7} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The kernel on one tile. It copies its blocks in, bottom one first, walks each upwards and copies the sums out. -/
theorem tile_run (x fo : S2x2048x2048.Idx → F .f32) (f : S3x256x128.Idx → F .f32) (O : CellTallies nD τ sig (HIx 1)) (W : Waits sig (HIx 1)) :
    iprop(Transfers.MayWaits (V d (cV L) (jV L)) (default : HIx 1) O ∗ owes (V d (cV L) (jV L)) O W
        ∗ (bigSep Finset.univ fun k : Fin 8 => xAt d L (blkOff L k) (blkOff_inb L k) x)
        ∗ (bigSep Finset.univ fun k : Fin 8 => oAt d L (blkOff L k) (blkOff_inb L k) fo)
        ∗ sAt d L ![0, 0, 0] inb_S3x256x128_S1x256x128_0_0_0 f ∗ semAt d L cc0_scratch1 ![0] inb_S3_S1_0 ∗ semAt d L cc0_scratch2 ![0] inb_S3_S1_0
        ∗ sAt d L ![1, 0, 0] inb_S3x256x128_S1x256x128_1_0_0 f ∗ semAt d L cc0_scratch1 ![1] inb_S3_S1_1 ∗ semAt d L cc0_scratch2 ![1] inb_S3_S1_1
        ∗ sAt d L ![2, 0, 0] inb_S3x256x128_S1x256x128_2_0_0 f ∗ semAt d L cc0_scratch1 ![2] inb_S3_S1_2 ∗ semAt d L cc0_scratch2 ![2] inb_S3_S1_2)
      ⊢ wp frame (wpE (defs₀ (F := F)) 𝒱₀ (V d (cV L) (jV L)) none) Set.univ
          (cc0__sc_suffix_sum L xV (Memref.isWhole_whole _) oV (Memref.isWhole_whole _) bufV (Memref.isWhole_whole _) cc0_scratch1 cc0_scratch2)
          fun _ => iprop((∃ W', owes (V d (cV L) (jV L)) O W')
        ∗ (bigSep Finset.univ fun k : Fin 8 => xAt d L (blkOff L k) (blkOff_inb L k) x)
        ∗ (bigSep Finset.univ fun k : Fin 8 => oAt d L (blkOff L k) (blkOff_inb L k) (sums x))
        ∗ (∃ f', sAt d L ![0, 0, 0] inb_S3x256x128_S1x256x128_0_0_0 f') ∗ semAt d L cc0_scratch1 ![0] inb_S3_S1_0 ∗ semAt d L cc0_scratch2 ![0] inb_S3_S1_0
        ∗ (∃ f', sAt d L ![1, 0, 0] inb_S3x256x128_S1x256x128_1_0_0 f') ∗ semAt d L cc0_scratch1 ![1] inb_S3_S1_1 ∗ semAt d L cc0_scratch2 ![1] inb_S3_S1_1
        ∗ (∃ f', sAt d L ![2, 0, 0] inb_S3x256x128_S1x256x128_2_0_0 f') ∗ semAt d L cc0_scratch1 ![2] inb_S3_S1_2 ∗ semAt d L cc0_scratch2 ![2] inb_S3_S1_2) := by
  rw [eight_blocks L (fun o h => xAt d L o h x), eight_blocks L (fun o h => oAt d L o h fo), eight_blocks L (fun o h => oAt d L o h (sums x))]
  iintro ⟨#Hmw, HO, ⟨X0, X1, X2, X3, X4, X5, X6, X7⟩, ⟨O0, O1, O2, O3, O4, O5, O6, O7⟩, S0, A0, B0, S1, A1, B1, S2, A2, B2⟩
  sl_unfold [cc0__sc_suffix_sum]
  sl_exec (disch := exact View.amount_pos _ _ (show 0 < S256x128.numel by decide))
  iapply (block_at d L x 0 0 (by decide) _ (k0_off1_inb L) k0_t1_loop rfl k0_t1_ok _ ?_ _ _ ?_ _ ?_) $$ S0
  · exact fun _ _ => rfl
  · rfl
  · rfl
  iintro S0
  sl_exec (disch := exact View.amount_pos _ _ (show 0 < S256x128.numel by decide))
  iapply (block_at d L x 1 1 (by decide) _ (k0_off2_inb L) k0_t2_loop rfl k0_t2_ok _ ?_ _ _ ?_ _ ?_) $$ S1
  · exact fun _ _ => rfl
  · rfl
  · rfl
  iintro S1
  sl_exec (disch := exact View.amount_pos _ _ (show 0 < S256x128.numel by decide))
  iapply (block_at d L x 2 2 (by decide) _ (k0_off11_inb L) k0_t3_loop rfl k0_t3_ok _ ?_ _ _ ?_ _ ?_) $$ S2
  · exact fun _ _ => rfl
  · rfl
  · rfl
  iintro S2
  sl_exec (disch := exact View.amount_pos _ _ (show 0 < S256x128.numel by decide))
  iapply (block_at d L x 3 0 (by decide) _ (k0_off20_inb L) k0_t4_loop rfl k0_t4_ok _ ?_ _ _ ?_ _ ?_) $$ S0
  · exact fun _ _ => rfl
  · rfl
  · rfl
  iintro S0
  sl_exec (disch := exact View.amount_pos _ _ (show 0 < S256x128.numel by decide))
  iapply (block_at d L x 4 1 (by decide) _ (k0_off29_inb L) k0_t5_loop rfl k0_t5_ok _ ?_ _ _ ?_ _ ?_) $$ S1
  · exact fun _ _ => rfl
  · rfl
  · rfl
  iintro S1
  sl_exec (disch := exact View.amount_pos _ _ (show 0 < S256x128.numel by decide))
  iapply (block_at d L x 5 2 (by decide) _ (k0_off38_inb L) k0_t6_loop rfl k0_t6_ok _ ?_ _ _ ?_ _ ?_) $$ S2
  · exact fun _ _ => rfl
  · rfl
  · rfl
  iintro S2
  sl_exec (disch := exact View.amount_pos _ _ (show 0 < S256x128.numel by decide))
  iapply (block_at d L x 6 0 (by decide) _ (k0_off47_inb L) k0_t7_loop rfl k0_t7_ok _ ?_ _ _ ?_ _ ?_) $$ S0
  · exact fun _ _ => rfl
  · rfl
  · rfl
  iintro S0
  sl_exec (disch := exact View.amount_pos _ _ (show 0 < S256x128.numel by decide))
  iapply (block_at d L x 7 1 (by decide) _ (k0_off56_inb L) k0_t8_loop rfl k0_t8_ok _ ?_ _ _ ?_ _ ?_) $$ S1
  · exact fun _ _ => rfl
  · rfl
  · rfl
  iintro S1
  sl_exec (disch := exact View.amount_pos _ _ (show 0 < S256x128.numel by decide))
  sl_step
  ihave O0 := (sums_at d L x 0 0 inb_S3x256x128_S1x256x128_0_0_0 _ ?_ (k0_off1_inb L) _ _ ?_) $$ O0
  · rfl
  · rfl
  ihave O1 := (sums_at d L x 1 1 inb_S3x256x128_S1x256x128_1_0_0 _ ?_ (k0_off2_inb L) _ _ ?_) $$ O1
  · rfl
  · rfl
  ihave O2 := (sums_at d L x 2 2 inb_S3x256x128_S1x256x128_2_0_0 _ ?_ (k0_off11_inb L) _ _ ?_) $$ O2
  · rfl
  · rfl
  ihave O3 := (sums_at d L x 3 0 inb_S3x256x128_S1x256x128_0_0_0 _ ?_ (k0_off20_inb L) _ _ ?_) $$ O3
  · rfl
  · rfl
  ihave O4 := (sums_at d L x 4 1 inb_S3x256x128_S1x256x128_1_0_0 _ ?_ (k0_off29_inb L) _ _ ?_) $$ O4
  · rfl
  · rfl
  ihave O5 := (sums_at d L x 5 2 inb_S3x256x128_S1x256x128_2_0_0 _ ?_ (k0_off38_inb L) _ _ ?_) $$ O5
  · rfl
  · rfl
  ihave O6 := (sums_at d L x 6 0 inb_S3x256x128_S1x256x128_0_0_0 _ ?_ (k0_off47_inb L) _ _ ?_) $$ O6
  · rfl
  · rfl
  ihave O7 := (sums_at d L x 7 1 inb_S3x256x128_S1x256x128_1_0_0 _ ?_ (k0_off56_inb L) _ _ ?_) $$ O7
  · rfl
  · rfl
  isplitl [HO]
  · iexists _; iexact HO
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [O0 O1 O2 O3 O4 O5 O6 O7]
  · isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  isplitl [S0]; · iexists _; iexact S0
  isplitl [A0]; · iexact A0
  isplitl [B0]; · iexact B0
  isplitl [S1]; · iexists _; iexact S1
  isplitl [A1]; · iexact A1
  isplitl [B1]; · iexact B1
  isplitl [S2]; · iexists _; iexact S2
  isplitl [A2]; · iexact A2
  iexact B2

end Tile

end Cert.Proof.Suffix

end
-- ==== Proof.Task.lean ====
/-
  A tile's task, from what the launch gives it: its eight blocks of each array, its buffer and its copies' cells. The buffer
  is its three slots, the cells are two per slot; the run of the kernel is `tile_run`.
-/
module

public import proofs.«01_k».proof.Proof.Tile
public import Idealize.ShloMosaic.Lib.StableHlo.Run

@[expose] public section

noncomputable section

namespace Cert.Proof.Suffix

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The program as the launch sees it. -/
abbrev ΛP : Labels := Pipeline.Sig Λ₀ (Fin 0) fun p => (pcfgs (F := F) p).Adm
abbrev K : SparseCore.Cfg τ sig (ΛP (F := F)) 1 := sc (F := F)

local notation "𝕄" => MT nD τ sig (HIx 1) (Elt F) ℕ UU ℕ
local notation "xV" => (Memref.whole Cert.KernelIdeal.main_arg0_scv : Memref Cert.KernelIdeal.sig Kind.scVector Space.hbm Cert.KernelIdeal.S2x2048x2048 EltTy.f32)
local notation "oV" => (Memref.whole Cert.KernelIdeal.main_v0_scv : Memref Cert.KernelIdeal.sig Kind.scVector Space.hbm Cert.KernelIdeal.S2x2048x2048 EltTy.f32)
local notation "bufV" => (Memref.whole Cert.KernelIdeal.cc0_scratch0 : Memref Cert.KernelIdeal.sig Kind.scVector Space.vmem Cert.KernelIdeal.S3x256x128 EltTy.f32)

/-- The operand and the result, as locations of device `d`. -/
abbrev xLoc (d : Dev nD) : Loc nD τ sig := (SparseCore.T d).loc main_arg0
abbrev oLoc (d : Dev nD) : Loc nD τ sig := (SparseCore.T d).loc main_v0

section Task

variable (d : Dev nD) (L : grid0.Coords)

/-- A tile's eight blocks of the operand and of the result. -/
def xBlocks (f : Buf (Elt F) (xLoc d)) : sProp 𝕄 := bigSep Finset.univ fun k : Fin 8 => xLoc d ↦[blkSet (blkOff L k) (blkOff_inb L k)]{fullShare} f
def oBlocks (f : Buf (Elt F) (oLoc d)) : sProp 𝕄 := bigSep Finset.univ fun k : Fin 8 => oLoc d ↦[blkSet (blkOff L k) (blkOff_inb L k)]{fullShare} f

/-- They are the blocks the kernel names. -/
theorem xBlocks_eq (f : Buf (Elt F) (xLoc d)) : xBlocks d L f = bigSep Finset.univ fun k : Fin 8 => xAt d L (blkOff L k) (blkOff_inb L k) f :=
  bigSep_congr fun k _ => by rw [xAt, set_xMem]
theorem oBlocks_eq (f : Buf (Elt F) (oLoc d)) : oBlocks d L f = bigSep Finset.univ fun k : Fin 8 => oAt d L (blkOff L k) (blkOff_inb L k) f :=
  bigSep_congr fun k _ => by rw [oAt, set_oMem]

/-- A slot by its number. -/
theorem slot_inb (s : Fin 3) : SlotInb ![s.val, 0, 0] := by revert s; decide
abbrev slotSet (s : Fin 3) : Finset S3x256x128.Idx := (slotMem ![s.val, 0, 0] (slot_inb s)).view.set
abbrev bufLoc : Loc nD τ sig := (V d (cV L) (jV L)).loc cc0_scratch0

theorem slots_disjoint : ∀ s ∈ (Finset.univ : Finset (Fin 3)), ∀ s' ∈ (Finset.univ : Finset (Fin 3)), s ≠ s' → Disjoint (slotSet s) (slotSet s') :=
  fun s _ s' _ h => Finset.disjoint_left.mpr fun i hi hi' =>
    h (Fin.ext (((mem_slot s.val (slot_inb s) i).mp hi).symm.trans ((mem_slot s'.val (slot_inb s') i).mp hi')))
theorem slots_cover : (Finset.univ : Finset (Fin 3)).biUnion slotSet = Finset.univ :=
  Finset.eq_univ_iff_forall.mpr fun i => Finset.mem_biUnion.mpr ⟨i 0, Finset.mem_univ _, (mem_slot _ (slot_inb (i 0)) i).mpr rfl⟩

theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- The buffer is its three slots. -/
theorem buf_slots (f : Buf (Elt F) (bufLoc d L)) :
    (bufLoc d L ↦{fullShare} f : sProp 𝕄) = bigSep Finset.univ fun s : Fin 3 => bufLoc d L ↦[slotSet s]{fullShare} f := by
  rw [← pointsTo_biUnion Finset.univ (ℓ := bufLoc d L) slotSet slots_disjoint, slots_cover]

/-- Three slots, each at contents of its own, are the buffer at some contents. -/
theorem slots_join [FloatOps F] :
    (bigSep Finset.univ fun s : Fin 3 => iprop(∃ f : Buf (Elt F) (bufLoc d L), bufLoc d L ↦[slotSet s]{fullShare} f))
      ⊢ (iprop(∃ f : Buf (Elt F) (bufLoc d L), bufLoc d L ↦{fullShare} f) : sProp 𝕄) := by
  refine (bigSep_exists_pi Finset.univ (fun s (f : Buf (Elt F) (bufLoc d L)) => bufLoc d L ↦[slotSet s]{fullShare} f)).trans ?_
  iintro ⟨%fs, H⟩
  have : Nonempty (Buf (Elt F) (bufLoc d L)) := ⟨fs 0⟩
  ihave H' := (pointsTo_biUnion_join (ℓ := bufLoc d L) (q := fullShare) (Val := Elt F) Finset.univ slotSet fs (fs 0) slots_disjoint) $$ H
  icases H' with ⟨%g, -, Hg⟩
  rw [slots_cover]
  iexists g; iexact Hg

/-- The tile's cells for its copies. -/
abbrev copyCells : Finset (SemLoc sig) := {.dma 0, .dma 1, .dma 2, .dma 3, .dma 4, .dma 5}
def atTile : SemLoc sig ↪ GSem nD τ sig := ⟨fun c => (V d (cV L) (jV L), c), fun _ _ e => (Prod.mk.inj e).2⟩

theorem copyCells_own : copyCells.map (atTile d L) ⊆ ownCells (V d (cV L) (jV L)) := by
  intro g hg
  obtain ⟨c, hc, rfl⟩ := Finset.mem_map.mp hg
  exact mem_ownCells.mpr ⟨rfl, (show ∀ c ∈ copyCells, c.isScoped .scVector = true by decide) c hc⟩

/-- The tile's own cells are the six of its copies, and the rest. -/
theorem ownSems0_V :
    (ownSems0 (V d (cV L) (jV L)) : sProp 𝕄)
      = iprop(((semAt d L cc0_scratch1 ![0] inb_S3_S1_0 ∗ semAt d L cc0_scratch1 ![1] inb_S3_S1_1 ∗ semAt d L cc0_scratch1 ![2] inb_S3_S1_2
            ∗ semAt d L cc0_scratch2 ![0] inb_S3_S1_0 ∗ semAt d L cc0_scratch2 ![1] inb_S3_S1_1 ∗ semAt d L cc0_scratch2 ![2] inb_S3_S1_2))
          ∗ bigSep (ownCells (V d (cV L) (jV L)) \ copyCells.map (atTile d L)) fun g => semVal g 0) := by
  have e := bigSep_union (Finset.disjoint_sdiff (s := copyCells.map (atTile d L)) (t := ownCells (V d (cV L) (jV L))))
    (Φ := fun g => (semVal g 0 : sProp 𝕄))
  rw [Finset.union_sdiff_of_subset (copyCells_own d L), bigSep_map, SparseCore.bigSep_insert' (by decide), SparseCore.bigSep_insert' (by decide),
    SparseCore.bigSep_insert' (by decide), SparseCore.bigSep_insert' (by decide), SparseCore.bigSep_insert' (by decide), bigSep_singleton] at e
  exact e

/-- The tile's own buffers are the one of the kernel, and the rest. -/
theorem ownBufs_V :
    (ownBufs (V d (cV L) (jV L)) : sProp 𝕄)
      = iprop((∃ f, bufLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

/-- The task: the sums in the tile's blocks of the result, everything else as it was given. -/
theorem tile_task (hF : (K (F := F)).Facts) (x : Buf (Elt F) (xLoc d)) (fo : Buf (Elt F) (oLoc d))
    (O : CellTallies nD τ sig (HIx 1)) (W : Waits sig (HIx 1)) (hO : ∀ g, O g none = 0) :
    iprop(levAts (K (F := F)).L (K (F := F)).lev ∗ emp ∗ (xBlocks d L x ∗ oBlocks d L fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_suffix_sum L xV (Memref.isWhole_whole _) oV (Memref.isWhole_whole _) bufV (Memref.isWhole_whole _) cc0_scratch1 cc0_scratch2)
          fun _ => iprop((xBlocks d L x ∗ oBlocks d L (sums x)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    xBlocks_eq, oBlocks_eq, oBlocks_eq]
  iintro ⟨#Hlv, -, ⟨Hx, Ho⟩, ⟨⟨%f, Hs⟩, Hbufs⟩, ⟨⟨A0, A1, A2, B0, B1, B2⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs := (Entails.of_eq ((buf_slots d L f).trans (three _))) $$ Hs
  icases Hs with ⟨S0, S1, S2⟩
  iapply (wp_wand _ _ _) $$ [Hmw HO Hx Ho S0 A0 B0 S1 A1 B1 S2 A2 B2]
  · iapply (tile_run d L x fo f O W)
    isplitl [Hmw]; · iexact Hmw
    isplitl [HO]; · iexact HO
    isplitl [Hx]; · iexact Hx
    isplitl [Ho]; · iexact Ho
    isplitl [S0]; · iexact S0
    isplitl [A0]; · iexact A0
    isplitl [B0]; · iexact B0
    isplitl [S1]; · iexact S1
    isplitl [A1]; · iexact A1
    isplitl [B1]; · iexact B1
    isplitl [S2]; · iexact S2
    isplitl [A2]; · iexact A2
    iexact B2
  iintro %_ ⟨⟨%W', HO⟩, Hx, Ho, S0, A0, B0, S1, A1, B1, S2, A2, B2⟩
  isplitl [Hx Ho]
  · isplitl [Hx]; · iexact Hx
    iexact Ho
  isplitl [S0 S1 S2 Hbufs]
  · isplitr [Hbufs]
    · iapply (slots_join d L)
      iapply (Entails.of_eq (three fun s : Fin 3 => iprop(∃ f : Buf (Elt F) (bufLoc d L), bufLoc d L ↦[slotSet s]{fullShare} f)).symm)
      isplitl [S0]; · iexact S0
      isplitl [S1]; · iexact S1
      iexact S2
    iexact Hbufs
  isplitl [A0 A1 A2 B0 B1 B2 Hsems]
  · isplitr [Hsems]
    · isplitl [A0]; · iexact A0
      isplitl [A1]; · iexact A1
      isplitl [A2]; · iexact A2
      isplitl [B0]; · iexact B0
      isplitl [B1]; · iexact B1
      iexact B2
    iexact Hsems
  iexists W'; isplitr
  · ipureintro; intro p _
    rcases p.2 with _ | q
    · exact .inr (.inl rfl)
    · exact .inr (.inr (congrArg some (Subsingleton.elim q 0)))
  iexact HO

end Task

end Cert.Proof.Suffix

end
-- ==== Proof.Launch.lean ====
/-
  The launch. The two arrays are the 256 blocks of the 32 tiles' tasks, eight each; each SparseCore is handed its sixteen
  tasks' blocks and hands them back with the sums in the result's. The run of the whole program follows by the launch theorem.
-/
module

public import proofs.«01_k».proof.Proof.Task

@[expose] public section

noncomputable section

namespace Cert.Proof.Suffix

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev D [FloatOps F] : Defs nD τ sig (Elt F) (ΛP (F := F)) := Pipeline.defs pcfgs defs₀
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The blocks of the arrays -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- Block `p.2.2` of the tile at subcore `p.2.1` of SparseCore `p.1`. -/
abbrev piece (p : Fin 2 × Fin 16 × Fin 8) : Finset S2x2048x2048.Idx :=
  blkSet (blkOff (coords p.1 p.2.1) p.2.2) (blkOff_inb (coords p.1 p.2.1) p.2.2)

/-- Which indices a block holds. -/
theorem mem_piece (p : Fin 2 × Fin 16 × Fin 8) (i : S2x2048x2048.Idx) :
    i ∈ piece p ↔ (p.2.1.val * 2 + p.1.val) / 16 = (i 0).val
      ∧ (1792 - 256 * p.2.2.val ≤ (i 1).val ∧ (i 1).val < 1792 - 256 * p.2.2.val + 256)
      ∧ (128 * ((p.2.1.val * 2 + p.1.val) % 16) ≤ (i 2).val ∧ (i 2).val < 128 * ((p.2.1.val * 2 + p.1.val) % 16) + 128) := by
  have e := blkOff_eq (coords p.1 p.2.1) p.2.2
  have e0 : blkOff (coords p.1 p.2.1) p.2.2 0 = (p.2.1.val * 2 + p.1.val) / 16 := congrFun e 0
  have e1 : blkOff (coords p.1 p.2.1) p.2.2 1 = 1792 - 256 * p.2.2.val := congrFun e 1
  have e2 : blkOff (coords p.1 p.2.1) p.2.2 2 = 128 * ((p.2.1.val * 2 + p.1.val) % 16) := congrFun e 2
  rw [piece, blkSet, Rect.mem_set_unit, ← e0, ← e1, ← e2]
  refine ⟨fun h => ⟨?_, h 1, h 2⟩, fun h a => ?_⟩
  · have h0 := h 0
    have : S1x256x128.size 0 = 1 := rfl
    omega
  · match a with
    | ⟨0, _⟩ => exact ⟨h.1.le, h.1 ▸ Nat.lt_succ_self _⟩
    | ⟨1, _⟩ => exact h.2.1
    | ⟨2, _⟩ => exact h.2.2

theorem pieces_disjoint : ∀ p ∈ (Finset.univ : Finset (Fin 2 × Fin 16 × Fin 8)), ∀ q ∈ (Finset.univ : Finset (Fin 2 × Fin 16 × Fin 8)),
    p ≠ q → Disjoint (piece p) (piece q) := by
  rintro ⟨c, s, k⟩ - ⟨c', s', k'⟩ - h
  refine Finset.disjoint_left.mpr fun i hi hi' => h ?_
  rw [mem_piece] at hi hi'
  simp only at hi hi'
  have := c.isLt; have := c'.isLt; have := k.isLt; have := k'.isLt; have := s.isLt; have := s'.isLt
  refine Prod.ext (Fin.ext ?_) (Prod.ext (Fin.ext ?_) (Fin.ext ?_)) <;> simp only <;> omega

theorem pieces_cover : (Finset.univ : Finset (Fin 2 × Fin 16 × Fin 8)).biUnion piece = Finset.univ := by
  refine Finset.eq_univ_iff_forall.mpr fun i => Finset.mem_biUnion.mpr ?_
  have h0 : (i 0).val < 2 := (i 0).isLt
  have h1 : (i 1).val < 2048 := (i 1).isLt
  have h2 : (i 2).val < 2048 := (i 2).isLt
  refine ⟨(⟨(16 * (i 0).val + (i 2).val / 128) % 2, by omega⟩, ⟨(16 * (i 0).val + (i 2).val / 128) / 2, by omega⟩, ⟨7 - (i 1).val / 256, by omega⟩),
    Finset.mem_univ _, ?_⟩
  rw [mem_piece]
  simp only
  omega

section Blocks

variable (d : Dev nD)

/-- Each array is the blocks of all the tiles, by SparseCore and subcore. -/
theorem x_blocks (f : Buf (Elt F) (xLoc d)) :
    (xLoc d ↦{fullShare} f : sProp 𝕄) = bigSep Finset.univ fun c : Fin 2 => bigSep Finset.univ fun s : Fin 16 => xBlocks d (coords c s) f := by
  rw [show (xLoc d ↦{fullShare} f : sProp 𝕄) = xLoc d ↦[Finset.univ.biUnion piece]{fullShare} f from by rw [pieces_cover],
    pointsTo_biUnion Finset.univ (ℓ := xLoc d) piece pieces_disjoint, bigSep_univ_prod]
  exact bigSep_congr fun c _ => bigSep_univ_prod _
theorem o_blocks (f : Buf (Elt F) (oLoc d)) :
    (oLoc d ↦{fullShare} f : sProp 𝕄) = bigSep Finset.univ fun c : Fin 2 => bigSep Finset.univ fun s : Fin 16 => oBlocks d (coords c s) f := by
  rw [show (oLoc d ↦{fullShare} f : sProp 𝕄) = oLoc d ↦[Finset.univ.biUnion piece]{fullShare} f from by rw [pieces_cover],
    pointsTo_biUnion Finset.univ (ℓ := oLoc d) piece pieces_disjoint, bigSep_univ_prod]
  exact bigSep_congr fun c _ => bigSep_univ_prod _

/-- One tile's blocks of both arrays, and one SparseCore's. -/
def tileHas (c : Fin 2) (s : Fin 16) (x : Buf (Elt F) (xLoc d)) (f : Buf (Elt F) (oLoc d)) : sProp 𝕄 :=
  iprop(xBlocks d (coords c s) x ∗ oBlocks d (coords c s) f)
def coreHas (c : Fin 2) (x : Buf (Elt F) (xLoc d)) (f : Buf (Elt F) (oLoc d)) : sProp 𝕄 :=
  bigSep Finset.univ fun s : Fin 16 => tileHas d c s x f

instance tileHas_storable (c : Fin 2) (s : Fin 16) (x : Buf (Elt F) (xLoc d)) (f : Buf (Elt F) (oLoc d)) :
    BI.Storable (upEmb : UEmb _ 𝕄) (tileHas d c s x f) := by unfold tileHas xBlocks oBlocks; infer_instance
instance coreHas_storable (c : Fin 2) (x : Buf (Elt F) (xLoc d)) (f : Buf (Elt F) (oLoc d)) :
    BI.Storable (upEmb : UEmb _ 𝕄) (coreHas d c x f) := by unfold coreHas; infer_instance

/-- Both arrays are what the two SparseCores are handed. -/
theorem arrays_cores (x : Buf (Elt F) (xLoc d)) (f : Buf (Elt F) (oLoc d)) :
    (bigSep Finset.univ fun c : Fin ((K (F := F)).nCore 0) => coreHas d (Fin.cast nCore_zero c) x f)
      = (iprop((xLoc d ↦{fullShare} x) ∗ oLoc d ↦{fullShare} f) : sProp 𝕄) := by
  rw [x_blocks, o_blocks, ← bigSep_sep']
  exact bigSep_congr fun c _ => bigSep_sep' _ _ _

end Blocks

/-! ## What the handshakes carry -/

variable (m : (ℓ : Loc nD τ sig) → Buf (Elt F) ℓ) (ρ : Dev nD → PrngReg)
variable [FloatOps F]

/-- Each SparseCore, and each of its tiles, takes its blocks and brings them back with the sums in the result's. -/
def P : (K (F := F)).Pay (nD := nD) (Val := Elt F) (Name := ℕ) (U := UU) where
  st := fun q d c => match q with | 0 => coreHas d (Fin.cast nCore_zero c) (m (xLoc d)) (m (oLoc d))
  dn := fun q d c => match q with | 0 => coreHas d (Fin.cast nCore_zero c) (m (xLoc d)) (sums (m (xLoc d)))
  go := fun q d c i => match q with | 0 => tileHas d (Fin.cast nCore_zero c) (Fin.cast nSub_zero i) (m (xLoc d)) (m (oLoc d))
  td := fun q d c i => match q with | 0 => tileHas d (Fin.cast nCore_zero c) (Fin.cast nSub_zero i) (m (xLoc d)) (sums (m (xLoc d)))
  x := fun _ _ => iprop(emp)

instance P_storable : (P (F := F) m).IsStorable where
  st q d c := match q with | 0 => coreHas_storable d (Fin.cast nCore_zero c) (m (xLoc d)) (m (oLoc d))
  dn q d c := match q with | 0 => coreHas_storable d (Fin.cast nCore_zero c) (m (xLoc d)) (sums (m (xLoc d)))
  go q d c i := match q with | 0 => tileHas_storable d (Fin.cast nCore_zero c) (Fin.cast nSub_zero i) (m (xLoc d)) (m (oLoc d))
  td q d c i := match q with | 0 => tileHas_storable d (Fin.cast nCore_zero c) (Fin.cast nSub_zero i) (m (xLoc d)) (sums (m (xLoc d)))

local notation "xV" => (Memref.whole Cert.KernelIdeal.main_arg0_scv : Memref Cert.KernelIdeal.sig Kind.scVector Space.hbm Cert.KernelIdeal.S2x2048x2048 EltTy.f32)
local notation "oV" => (Memref.whole Cert.KernelIdeal.main_v0_scv : Memref Cert.KernelIdeal.sig Kind.scVector Space.hbm Cert.KernelIdeal.S2x2048x2048 EltTy.f32)
local notation "bufV" => (Memref.whole Cert.KernelIdeal.cc0_scratch0 : Memref Cert.KernelIdeal.sig Kind.scVector Space.vmem Cert.KernelIdeal.S3x256x128 EltTy.f32)

theorem defs₀_vector (c : Fin τ.nSC) (s : Fin τ.nSub) :
    defs₀ (F := F) (.scVector c s) 0 ()
      = SparseCore.onTile hcore0 hsub0 (fun c s => cc0__sc_suffix_sum (coords c s) xV (Memref.isWhole_whole _) oV (Memref.isWhole_whole _)
          bufV (Memref.isWhole_whole _) cc0_scratch1 cc0_scratch2) ⟨⟩ c s := rfl

/-- Every tile's task, as the launch asks for it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task d (coords ⟨_, hci.1⟩ ⟨_, hci.2⟩) hF (m (xLoc d)) (m (oLoc d)) O W hO

theorem tiles_core (d : Dev nD) (c : Fin 2) (x : Buf (Elt F) (xLoc d)) (f : Buf (Elt F) (oLoc d)) :
    (bigSep Finset.univ fun i : Fin ((K (F := F)).nSub 0) => tileHas d c (Fin.cast nSub_zero i) x f) = (coreHas d c x f : sProp 𝕄) :=
  bigSep_congr fun _ _ => rfl

/-- What a SparseCore is handed is what its tiles are, before and after. -/
theorem vecSplit : (K (F := F)).VecSplit' (P m) 0 := by
  intro d c
  show coreHas d (Fin.cast nCore_zero c) (m (xLoc d)) (m (oLoc d)) ⊢ |={Set.univ}=> iprop(
      (bigSep Finset.univ fun i : Fin ((K (F := F)).nSub 0) => tileHas d (Fin.cast nCore_zero c) (Fin.cast nSub_zero i) (m (xLoc d)) (m (oLoc d)))
      ∗ ((bigSep Finset.univ fun i : Fin ((K (F := F)).nSub 0) => tileHas d (Fin.cast nCore_zero c) (Fin.cast nSub_zero i) (m (xLoc d)) (sums (m (xLoc d))))
          -∗ coreHas d (Fin.cast nCore_zero c) (m (xLoc d)) (sums (m (xLoc d)))))
  rw [tiles_core, tiles_core]
  iintro H; imodintro
  isplitl [H]; · iexact H
  iintro H; iexact H

/-! ## The launch -/

/-- The launch element: the handshakes' rounds. -/
def u₀ : UU := (initOf (K (F := F)).hsCells (K (F := F)).hsToks, 1)

omit [FloatOps F] in
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the program leaves: the operand as it was, the sums in the result. -/
abbrev FIN (d : Dev nD) : sProp 𝕄 := iprop((xLoc d ↦{fullShare} m (xLoc d)) ∗ oLoc d ↦{fullShare} sums (m (xLoc d)))

/-- The program on the TensorCore: the one call, from the two arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxo, Hts, -⟩, -⟩
  iapply ((K (F := F)).wp_run (D (F := F)) 𝒱 (EH := EH) (P := P m) κ d 0) $$ [Hst Hxo Hb Hts]
  isplitr; · iexact Hctx
  isplitl [Hst]; · iexact Hst
  isplitl [Hxo]
  · iapply (Entails.of_eq (arrays_cores d (m (xLoc d)) (m (oLoc d))).symm); iexact Hxo
  iintro ⟨Hst, Hdn⟩
  ihave Hdn := (show (bigSep Finset.univ fun c : Fin ((K (F := F)).nCore 0) => (P m).dn 0 d c) ⊢ FIN m d from
    Entails.of_eq (arrays_cores d (m (xLoc d)) (sums (m (xLoc d))))) $$ Hdn
  imodintro
  isplitl [Hst]; · iexact Hst
  isplitl [Hdn]; · iexact Hdn
  isplitl [Hb] <;> iassumption

def fq (d : Dev nD) (s' : Phys nD τ sig (Elt F)) : Prop := s'.mem.mem (xLoc d) = m (xLoc d) ∧ s'.mem.mem (oLoc d) = sums (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := sums (m (xLoc d)))) $$ [HSI Ho]
  · isplitl [HSI] <;> iassumption
  icases H with %ho
  ipureintro; exact ⟨funext fun i => hx i (Finset.mem_univ i), funext fun i => ho i (Finset.mem_univ i)⟩

/-- The final states: on every device the operand unchanged and the sums in the result; every counter at zero. -/
def QC : PUnit × MemSt nD τ sig (Elt F) → Prop := fun r =>
  (∀ c : Dev nD, r.2.mem (xLoc c) = m (xLoc c) ∧ r.2.mem (oLoc c) = sums (m (xLoc c))) ∧ r.2.sem = fun _ => 0

/-- The program runs to the sums, at any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Suffix

end
-- ==== Proof.Reference.lean ====
/-
  What the reference computes, at the ideal values: the operand reversed along its rows, summed from the first row on, and
  reversed back. Each entry is the kernel's sum, as addition of extended reals is commutative.
-/
module

public import proofs.«01_k».proof.Proof.Columns
public import proofs.«01_k».proof.Proof.Gen.ReferenceIdeal
public import Idealize.ShloMosaic.Lib.IdealHost

@[expose] public section

noncomputable section

namespace Cert.Proof.Suffix

open Idealize.ShloMosaic

/-- The reference's result, as its run leaves it. -/
def flipped (x : Cert.KernelIdeal.S2x2048x2048.Idx → Ideal .f32) : Cert.KernelIdeal.S2x2048x2048.Idx → Ideal .f32 :=
  Host.reverse [1] (Host.reduceWindowAdd (s := Cert.ReferenceIdeal.S2x2048x2048) ![1, 2048, 1] ![1, 1, 1] ![0, 2047, 0] ![0, 0, 0] (Host.reverse [1] x)
    (broadcastInDim Cert.ReferenceIdeal.S_ ![] Cert.ReferenceIdeal.Gen.facts.toFacts₀.bcast_S_S_ (constant Cert.ReferenceIdeal.S_ .f32 0x00000000#32))
    Cert.ReferenceIdeal.Gen.facts.toFacts₀.reduceWindows_S2x2048x2048_S2x2048x2048_w1s1p0_0_w2048s1p2047_0_w1s1p0_0 Cert.ReferenceIdeal.Gen.facts.toFacts₀.h_S_)

/-- A window that starts in the padding: its first `r` entries are zero, the others are the column's from the last upwards.
    Its first `n` entries sum to the tail of `n - r`. -/
theorem window_tail (x : Cert.KernelIdeal.S2x2048x2048.Idx → Ideal .f32) (b r c n : ℕ) :
    (List.range n).foldl (fun (a : EReal) k => a + if r ≤ k then x (at3 b (2047 - (k - r)) c) else 0) 0 = tail x b c (n - r) := by
  induction n with
  | zero => rw [Nat.zero_sub]; exact Ideal.ofBits_zero_f32.symm
  | succ n ih =>
    rw [List.range_succ, List.foldl_append, ih, List.foldl_cons, List.foldl_nil]
    by_cases h : r ≤ n
    · rw [if_pos h, Nat.succ_sub h, add_comm]; rfl
    · rw [if_neg h, add_zero, Nat.sub_eq_zero_of_le (by omega), Nat.sub_eq_zero_of_le (by omega)]

/-- Entry `n` of a window of 2048 rows is in row `n`. -/
theorem window_row (n : Fin (⟨3, ![1, 2048, 1]⟩ : Shape).numel) :
    ((⟨3, ![1, 2048, 1]⟩ : Shape).rowMajor.symm n 0).val = 0 ∧ ((⟨3, ![1, 2048, 1]⟩ : Shape).rowMajor.symm n 1).val = n.val
      ∧ ((⟨3, ![1, 2048, 1]⟩ : Shape).rowMajor.symm n 2).val = 0 := by
  have e := Shape.rowMajor_val_three ((⟨3, ![1, 2048, 1]⟩ : Shape).rowMajor.symm n)
  rw [Equiv.apply_symm_apply] at e
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  simp only [Matrix.cons_val_zero, Matrix.cons_val_one, Matrix.cons_val] at e
  omega

/-- A fold over the numbers below `N` by their values. -/
theorem foldl_finRange (N : ℕ) (g : EReal → ℕ → EReal) (z : EReal) :
    (List.finRange N).foldl (fun a n => g a n.val) z = (List.range N).foldl g z := by
  rw [← List.map_coe_finRange_eq_range, List.foldl_map]

/-- Folds of equal steps from equal values. -/
theorem foldl_same {α : Type} {f g : EReal → α → EReal} {z z' : EReal} (l : List α) (hz : z = z') (h : ∀ a n, f a n = g a n) :
    l.foldl f z = l.foldl g z' := by
  rw [hz, show f = g from funext fun a => funext (h a)]

/-- The reference's result is the kernel's. -/
theorem flipped_eq (x : Cert.KernelIdeal.S2x2048x2048.Idx → Ideal .f32) : flipped x = sums x := by
  funext i
  have h1 : (i 1).val < 2048 := (i 1).isLt
  have hz : (Ideal.ofBits .f32 0x00000000#32 : EReal) = 0 := Ideal.ofBits_zero_f32
  refine Eq.trans ?_ (window_tail x (i 0) (i 1) (i 2) 2048)
  refine Eq.trans ?_ (foldl_finRange (⟨3, ![1, 2048, 1]⟩ : Shape).numel (fun (a : EReal) k => a + if (i 1).val ≤ k then x (at3 (i 0) (2047 - (k - (i 1).val)) (i 2)) else 0) 0)
  unfold flipped Host.reverse Host.reduceWindowAdd
  rw [Ideal.hostReduceWindowAdd_def]
  unfold Ideal.hostReduceWindowAdd Host.reduceWindow
  refine foldl_same _ hz fun a n => congrArg (a + ·) ?_
  obtain ⟨w0, w1, w2⟩ := window_row n
  have hn : n.val < 2048 := n.isLt
  have i0 : (i 0).val < 2 := (i 0).isLt
  have i2 : (i 2).val < 2048 := (i 2).isLt
  have hr : (Fin.rev (i 1)).val = 2047 - (i 1).val := by rw [Fin.val_rev]; show 2048 - ((i 1).val + 1) = _; omega
  split
  · next hin =>
    have q := (hin 1).1
    change 2047 ≤ (Fin.rev (i 1)).val * 1 + ((⟨3, ![1, 2048, 1]⟩ : Shape).rowMajor.symm n 1).val at q
    rw [hr, w1] at q
    rw [if_pos (by omega)]
    refine congrArg x (eq_at3 _ ?_ ?_ ?_)
    · show (i 0).val * 1 + ((⟨3, ![1, 2048, 1]⟩ : Shape).rowMajor.symm n 0).val - 0 = _
      omega
    · refine (Fin.val_rev _).trans ?_
      show 2048 - ((Fin.rev (i 1)).val * 1 + ((⟨3, ![1, 2048, 1]⟩ : Shape).rowMajor.symm n 1).val - 2047 + 1) = _
      omega
    · show (i 2).val * 1 + ((⟨3, ![1, 2048, 1]⟩ : Shape).rowMajor.symm n 2).val - 0 = _
      omega
  · next hin =>
    rw [if_neg fun hle => hin fun a => ?_]
    · exact hz
    · match a with
      | ⟨0, _⟩ =>
        show 0 ≤ (i 0).val * 1 + ((⟨3, ![1, 2048, 1]⟩ : Shape).rowMajor.symm n 0).val
          ∧ (i 0).val * 1 + ((⟨3, ![1, 2048, 1]⟩ : Shape).rowMajor.symm n 0).val - 0 < 2
        omega
      | ⟨1, _⟩ =>
        show 2047 ≤ (Fin.rev (i 1)).val * 1 + ((⟨3, ![1, 2048, 1]⟩ : Shape).rowMajor.symm n 1).val
          ∧ (Fin.rev (i 1)).val * 1 + ((⟨3, ![1, 2048, 1]⟩ : Shape).rowMajor.symm n 1).val - 2047 < 2048
        omega
      | ⟨2, _⟩ =>
        show 0 ≤ (i 2).val * 1 + ((⟨3, ![1, 2048, 1]⟩ : Shape).rowMajor.symm n 2).val
          ∧ (i 2).val * 1 + ((⟨3, ![1, 2048, 1]⟩ : Shape).rowMajor.symm n 2).val - 0 < 2048
        omega

end Cert.Proof.Suffix

end
-- ==== Proof.lean ====
/-
  The certificate: frames of the kernel, of its idealization and of the reference, and the equality of the last two's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

open Suffix

/-- The idealized kernel runs from any memory, leaves its argument unchanged and every counter at zero. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So does the kernel, at bit-exact values. -/
theorem frame_kernel : Cert.quiescent_Kernel := fun m ρ _ =>
  (θ_run Cert.KernelIdeal.defs _ _).mono (fun _ h => ⟨fun c => (h.1 c).1, h.2⟩) (run_main (F := Bits) m ρ)

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the idealized kernel and the reference end with equal results: both are the columns' sums. -/
theorem algebraic : Cert.algebraic_KernelIdeal_ReferenceIdeal := by
  intro m ρ m' ρ' _ hagree
  refine ⟨fun c => sums (F := Ideal) (m (xLoc c)), ?_, ?_⟩
  · exact (θ_run Cert.KernelIdeal.defs _ _).mono (fun _ h c => ⟨(h.1 c).2, (h.1 c).1⟩) (run_main (F := Ideal) m ρ)
  · refine (θ_run Cert.ReferenceIdeal.defs _ _).mono (fun _ h c => ⟨?_, (h c).2⟩) (Cert.ReferenceIdeal.Value.run (F := Ideal) m' ρ')
    exact ((h c).1.trans (congrArg flipped (hagree c))).trans (flipped_eq (m (xLoc c)))

/-- The certificate. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
